-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.Statement Cert.KernelIdeal.S128x2x128 Cert.KernelIdeal.S128x1x128
  ∧ IdealRules.bf16_pair.Statement Cert.KernelIdeal.S256x128 Cert.KernelIdeal.S128x128
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v22)) (v3 : (c : Dev Cert.KernelIdeal.nD) → Buf (Elt Ideal) ((c.tc : Thread Cert.KernelIdeal.nD Cert.KernelIdeal.τ).loc Cert.KernelIdeal.main_v23)) (v4 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_v23) = v3 c
          ∧ r.2.mem ((c.tc : Thread Cert.KernelIdeal.nD Cert.KernelIdeal.τ).loc Cert.KernelIdeal.main_v25) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51_0) = v0 c
          ∧ r.2.mem ((c.tc : Thread Cert.ReferenceIdeal.nD Cert.ReferenceIdeal.τ).loc Cert.ReferenceIdeal.main_v51_1) = v1 c
          ∧ r.2.mem ((c.tc : Thread Cert.ReferenceIdeal.nD Cert.ReferenceIdeal.τ).loc Cert.ReferenceIdeal.main_v51_2) = v2 c
          ∧ r.2.mem ((c.tc : Thread Cert.ReferenceIdeal.nD Cert.ReferenceIdeal.τ).loc Cert.ReferenceIdeal.main_v51_3) = v3 c
          ∧ r.2.mem ((c.tc : Thread Cert.ReferenceIdeal.nD Cert.ReferenceIdeal.τ).loc Cert.ReferenceIdeal.main_v51_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x40x128 : Shape := ⟨4, ![2, 1024, 40, 128]⟩
abbrev S2x1024x8x128 : Shape := ⟨4, ![2, 1024, 8, 128]⟩
abbrev S2x1024x5120 : Shape := ⟨3, ![2, 1024, 5120]⟩
abbrev S2x1024 : Shape := ⟨2, ![2, 1024]⟩
abbrev S5120x7168 : Shape := ⟨2, ![5120, 7168]⟩
abbrev S40x56 : Shape := ⟨2, ![40, 56]⟩
abbrev S64 : Shape := ⟨1, ![64]⟩
abbrev S_ : Shape := ⟨0, ![]⟩
abbrev S128 : Shape := ⟨1, ![128]⟩
abbrev S1x128 : Shape := ⟨2, ![1, 128]⟩
abbrev S2048x1 : Shape := ⟨2, ![2048, 1]⟩
abbrev S2048x40x128 : Shape := ⟨3, ![2048, 40, 128]⟩
abbrev S2048x8x128 : Shape := ⟨3, ![2048, 8, 128]⟩
abbrev S2048x7168 : Shape := ⟨2, ![2048, 7168]⟩
abbrev S2048x56 : Shape := ⟨2, ![2048, 56]⟩
abbrev S128x1 : Shape := ⟨2, ![128, 1]⟩
abbrev S128x40x128 : Shape := ⟨3, ![128, 40, 128]⟩
abbrev S128x8x128 : Shape := ⟨3, ![128, 8, 128]⟩
abbrev S128x7168 : Shape := ⟨2, ![128, 7168]⟩
abbrev S128x56 : Shape := ⟨2, ![128, 56]⟩
abbrev S128x128 : Shape := ⟨2, ![128, 128]⟩
abbrev S128x20x128 : Shape := ⟨3, ![128, 20, 128]⟩
abbrev S2560x128 : Shape := ⟨2, ![2560, 128]⟩
abbrev S128x2x128 : Shape := ⟨3, ![128, 2, 128]⟩
abbrev S128x1x128 : Shape := ⟨3, ![128, 1, 128]⟩
abbrev S128x4x128 : Shape := ⟨3, ![128, 4, 128]⟩
abbrev S512x128 : Shape := ⟨2, ![512, 128]⟩
abbrev S2048x5120 : Shape := ⟨2, ![2048, 5120]⟩
abbrev S20x2048x2 : Shape := ⟨3, ![20, 2048, 2]⟩
abbrev S256x7168 : Shape := ⟨2, ![256, 7168]⟩
abbrev S2048x256 : Shape := ⟨2, ![2048, 256]⟩
abbrev S1x2048x2 : Shape := ⟨3, ![1, 2048, 2]⟩
abbrev S1x1 : Shape := ⟨2, ![1, 1]⟩
abbrev S512x7168 : Shape := ⟨2, ![512, 7168]⟩
abbrev S512x256 : Shape := ⟨2, ![512, 256]⟩
abbrev S512 : Shape := ⟨1, ![512]⟩
abbrev S512x1 : Shape := ⟨2, ![512, 1]⟩
abbrev S1x512x1 : Shape := ⟨3, ![1, 512, 1]⟩
abbrev S2x1024x7168 : Shape := ⟨3, ![2, 1024, 7168]⟩
abbrev S2x1024x56 : Shape := ⟨3, ![2, 1024, 56]⟩
abbrev S2048x20x2 : Shape := ⟨3, ![2048, 20, 2]⟩
abbrev S2x1024x40 : Shape := ⟨3, ![2, 1024, 40]⟩

abbrev nBuf : Space → Nat
  | .hbm => 42
  | .vmem => 27
  | .smem => 1
  | _ => 0

abbrev bufTy : (tb : Table) → Fin (tcTables nBuf tb) → BufTy
  | .hbm, ⟨0, _⟩ => ⟨S2x1024x40x128, .bf16⟩
  | .hbm, ⟨1, _⟩ => ⟨S2x1024x8x128, .bf16⟩
  | .hbm, ⟨2, _⟩ => ⟨S2x1024x8x128, .bf16⟩
  | .hbm, ⟨3, _⟩ => ⟨S2x1024x5120, .bf16⟩
  | .hbm, ⟨4, _⟩ => ⟨S2x1024, .i32⟩
  | .hbm, ⟨5, _⟩ => ⟨S5120x7168, .fp8e4m3⟩
  | .hbm, ⟨6, _⟩ => ⟨S40x56, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S128, .f32⟩
  | .hbm, ⟨24, _⟩ => ⟨S1x128, .f32⟩
  | .hbm, ⟨25, _⟩ => ⟨S2048x1, .i32⟩
  | .hbm, ⟨26, _⟩ => ⟨S2048x40x128, .bf16⟩
  | .hbm, ⟨27, _⟩ => ⟨S2048x8x128, .bf16⟩
  | .hbm, ⟨28, _⟩ => ⟨S2048x8x128, .bf16⟩
  | .hbm, ⟨29, _⟩ => ⟨S2048x7168, .fp8e5m2⟩
  | .hbm, ⟨30, _⟩ => ⟨S2048x56, .f32⟩
  | .hbm, ⟨31, _⟩ => ⟨S2048x7168, .bf16⟩
  | .hbm, ⟨32, _⟩ => ⟨S2048x5120, .bf16⟩
  | .hbm, ⟨33, _⟩ => ⟨S2048x5120, .bf16⟩
  | .hbm, ⟨34, _⟩ => ⟨S2048x5120, .fp8e5m2⟩
  | .hbm, ⟨35, _⟩ => ⟨S20x2048x2, .f32⟩
  | .hbm, ⟨36, _⟩ => ⟨S2x1024x5120, .bf16⟩
  | .hbm, ⟨37, _⟩ => ⟨S2x1024x7168, .fp8e5m2⟩
  | .hbm, ⟨38, _⟩ => ⟨S2x1024x56, .f32⟩
  | .hbm, ⟨39, _⟩ => ⟨S2x1024x5120, .fp8e5m2⟩
  | .hbm, ⟨40, _⟩ => ⟨S2048x20x2, .f32⟩
  | .hbm, ⟨41, _⟩ => ⟨S2x1024x40, .f32⟩
  | .local _ .vmem, ⟨0, _⟩ => ⟨S128x1, .i32⟩
  | .local _ .vmem, ⟨1, _⟩ => ⟨S128x1, .i32⟩
  | .local _ .vmem, ⟨2, _⟩ => ⟨S1x128, .f32⟩
  | .local _ .vmem, ⟨3, _⟩ => ⟨S128x40x128, .bf16⟩
  | .local _ .vmem, ⟨4, _⟩ => ⟨S128x40x128, .bf16⟩
  | .local _ .vmem, ⟨5, _⟩ => ⟨S128x8x128, .bf16⟩
  | .local _ .vmem, ⟨6, _⟩ => ⟨S128x8x128, .bf16⟩
  | .local _ .vmem, ⟨7, _⟩ => ⟨S128x8x128, .bf16⟩
  | .local _ .vmem, ⟨8, _⟩ => ⟨S128x8x128, .bf16⟩
  | .local _ .vmem, ⟨9, _⟩ => ⟨S128x7168, .fp8e5m2⟩
  | .local _ .vmem, ⟨10, _⟩ => ⟨S128x7168, .fp8e5m2⟩
  | .local _ .vmem, ⟨11, _⟩ => ⟨S128x56, .f32⟩
  | .local _ .vmem, ⟨12, _⟩ => ⟨S128x56, .f32⟩
  | .local _ .vmem, ⟨13, _⟩ => ⟨S128x7168, .bf16⟩
  | .local _ .vmem, ⟨14, _⟩ => ⟨S128x7168, .bf16⟩
  | .local _ .vmem, ⟨15, _⟩ => ⟨S2048x7168, .bf16⟩
  | .local _ .vmem, ⟨16, _⟩ => ⟨S256x7168, .fp8e4m3⟩
  | .local _ .vmem, ⟨17, _⟩ => ⟨S256x7168, .fp8e4m3⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S2048x256, .fp8e5m2⟩
  | .local _ .vmem, ⟨23, _⟩ => ⟨S2048x256, .fp8e5m2⟩
  | .local _ .vmem, ⟨24, _⟩ => ⟨S1x2048x2, .f32⟩
  | .local _ .vmem, ⟨25, _⟩ => ⟨S1x2048x2, .f32⟩
  | .local _ .vmem, ⟨26, _⟩ => ⟨S256x7168, .bf16⟩
  | .local _ .smem, ⟨0, _⟩ => ⟨S40x56, .f32⟩
  | _, _ => ⟨S2x1024x40x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_v17_2 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev main_v19_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_scratch0 : Ref sig .tc := ⟨.vmem, 26, rfl⟩
abbrev cc1_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x40x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x8x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x8x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x7168 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x56 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x7168 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def k1_off1 (i : grid1.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  let c0 : Index := 0#32
  ![v2.toNat, 0]
def k1_off2 (i : grid1.Coords) (c0_i32_5 : BitVec 32) : Fin 2 → Nat :=
  let arg0 : BitVec 32 := BitVec.ofNat 32 (i 0).val
  let c2_i32_4 : BitVec 32 := 2#32
  let v12 : BitVec 32 := Scalar.muli arg0 c2_i32_4
  let v13 : BitVec 32 := Scalar.addi v12 c0_i32_5
  let v14 : Index := Scalar.indexCast v13
  let c1 : Index := 1#32
  ![v14.toNat, 1]
def k1_off3 (i : grid1.Coords) (c0_i32_10 : BitVec 32) : Fin 2 → Nat :=
  let arg0 : BitVec 32 := BitVec.ofNat 32 (i 0).val
  let c2_i32_9 : BitVec 32 := 2#32
  let v24 : BitVec 32 := Scalar.muli arg0 c2_i32_9
  let v25 : BitVec 32 := Scalar.addi v24 c0_i32_10
  let v26 : Index := Scalar.indexCast v25
  let c2 : Index := 2#32
  ![v26.toNat, 2]
def k1_off4 (i : grid1.Coords) (c0_i32_15 : BitVec 32) : Fin 2 → Nat :=
  let arg0 : BitVec 32 := BitVec.ofNat 32 (i 0).val
  let c2_i32_14 : BitVec 32 := 2#32
  let v36 : BitVec 32 := Scalar.muli arg0 c2_i32_14
  let v37 : BitVec 32 := Scalar.addi v36 c0_i32_15
  let v38 : Index := Scalar.indexCast v37
  let c3 : Index := 3#32
  ![v38.toNat, 3]
def k1_off5 (i : grid1.Coords) (c0_i32_20 : BitVec 32) : Fin 2 → Nat :=
  let arg0 : BitVec 32 := BitVec.ofNat 32 (i 0).val
  let c2_i32_19 : BitVec 32 := 2#32
  let v48 : BitVec 32 := Scalar.muli arg0 c2_i32_19
  let v49 : BitVec 32 := Scalar.addi v48 c0_i32_20
  let v50 : Index := Scalar.indexCast v49
  let c4 : Index := 4#32
  ![v50.toNat, 4]
def k1_off6 (i : grid1.Coords) (c0_i32_25 : BitVec 32) : Fin 2 → Nat :=
  let arg0 : BitVec 32 := BitVec.ofNat 32 (i 0).val
  let c2_i32_24 : BitVec 32 := 2#32
  let v60 : BitVec 32 := Scalar.muli arg0 c2_i32_24
  let v61 : BitVec 32 := Scalar.addi v60 c0_i32_25
  let v62 : Index := Scalar.indexCast v61
  let c5 : Index := 5#32
  ![v62.toNat, 5]
def k1_off7 (i : grid1.Coords) (c0_i32_30 : BitVec 32) : Fin 2 → Nat :=
  let arg0 : BitVec 32 := BitVec.ofNat 32 (i 0).val
  let c2_i32_29 : BitVec 32 := 2#32
  let v72 : BitVec 32 := Scalar.muli arg0 c2_i32_29
  let v73 : BitVec 32 := Scalar.addi v72 c0_i32_30
  let v74 : Index := Scalar.indexCast v73
  let c6 : Index := 6#32
  ![v74.toNat, 6]
def k1_off8 (i : grid1.Coords) (c0_i32_35 : BitVec 32) : Fin 2 → Nat :=
  let arg0 : BitVec 32 := BitVec.ofNat 32 (i 0).val
  let c2_i32_34 : BitVec 32 := 2#32
  let v84 : BitVec 32 := Scalar.muli arg0 c2_i32_34
  let v85 : BitVec 32 := Scalar.addi v84 c0_i32_35
  let v86 : Index := Scalar.indexCast v85
  let c7 : Index := 7#32
  ![v86.toNat, 7]
def k1_off9 (i : grid1.Coords) (c0_i32_40 : BitVec 32) : Fin 2 → Nat :=
  let arg0 : BitVec 32 := BitVec.ofNat 32 (i 0).val
  let c2_i32_39 : BitVec 32 := 2#32
  let v96 : BitVec 32 := Scalar.muli arg0 c2_i32_39
  let v97 : BitVec 32 := Scalar.addi v96 c0_i32_40
  let v98 : Index := Scalar.indexCast v97
  let c8 : Index := 8#32
  ![v98.toNat, 8]
def k1_off10 (i : grid1.Coords) (c0_i32_45 : BitVec 32) : Fin 2 → Nat :=
  let arg0 : BitVec 32 := BitVec.ofNat 32 (i 0).val
  let c2_i32_44 : BitVec 32 := 2#32
  let v108 : BitVec 32 := Scalar.muli arg0 c2_i32_44
  let v109 : BitVec 32 := Scalar.addi v108 c0_i32_45
  let v110 : Index := Scalar.indexCast v109
  let c9 : Index := 9#32
  ![v110.toNat, 9]
def k1_off11 (i : grid1.Coords) (c0_i32_50 : BitVec 32) : Fin 2 → Nat :=
  let arg0 : BitVec 32 := BitVec.ofNat 32 (i 0).val
  let c2_i32_49 : BitVec 32 := 2#32
  let v120 : BitVec 32 := Scalar.muli arg0 c2_i32_49
  let v121 : BitVec 32 := Scalar.addi v120 c0_i32_50
  let v122 : Index := Scalar.indexCast v121
  let c10 : Index := 10#32
  ![v122.toNat, 10]
def k1_off12 (i : grid1.Coords) (c0_i32_55 : BitVec 32) : Fin 2 → Nat :=
  let arg0 : BitVec 32 := BitVec.ofNat 32 (i 0).val
  let c2_i32_54 : BitVec 32 := 2#32
  let v132 : BitVec 32 := Scalar.muli arg0 c2_i32_54
  let v133 : BitVec 32 := Scalar.addi v132 c0_i32_55
  let v134 : Index := Scalar.indexCast v133
  let c11 : Index := 11#32
  ![v134.toNat, 11]
def k1_off13 (i : grid1.Coords) (c0_i32_60 : BitVec 32) : Fin 2 → Nat :=
  let arg0 : BitVec 32 := BitVec.ofNat 32 (i 0).val
  let c2_i32_59 : BitVec 32 := 2#32
  let v144 : BitVec 32 := Scalar.muli arg0 c2_i32_59
  let v145 : BitVec 32 := Scalar.addi v144 c0_i32_60
  let v146 : Index := Scalar.indexCast v145
  let c12 : Index := 12#32
  ![v146.toNat, 12]
def k1_off14 (i : grid1.Coords) (c0_i32_65 : BitVec 32) : Fin 2 → Nat :=
  let arg0 : BitVec 32 := BitVec.ofNat 32 (i 0).val
  let c2_i32_64 : BitVec 32 := 2#32
  let v156 : BitVec 32 := Scalar.muli arg0 c2_i32_64
  let v157 : BitVec 32 := Scalar.addi v156 c0_i32_65
  let v158 : Index := Scalar.indexCast v157
  let c13 : Index := 13#32
  ![v158.toNat, 13]
def k1_off15 (i : grid1.Coords) (c0_i32_70 : BitVec 32) : Fin 2 → Nat :=
  let arg0 : BitVec 32 := BitVec.ofNat 32 (i 0).val
  let c2_i32_69 : BitVec 32 := 2#32
  let v168 : BitVec 32 := Scalar.muli arg0 c2_i32_69
  let v169 : BitVec 32 := Scalar.addi v168 c0_i32_70
  let v170 : Index := Scalar.indexCast v169
  let c14 : Index := 14#32
  ![v170.toNat, 14]
def k1_off16 (i : grid1.Coords) (c0_i32_75 : BitVec 32) : Fin 2 → Nat :=
  let arg0 : BitVec 32 := BitVec.ofNat 32 (i 0).val
  let c2_i32_74 : BitVec 32 := 2#32
  let v180 : BitVec 32 := Scalar.muli arg0 c2_i32_74
  let v181 : BitVec 32 := Scalar.addi v180 c0_i32_75
  let v182 : Index := Scalar.indexCast v181
  let c15 : Index := 15#32
  ![v182.toNat, 15]
def k1_off17 (i : grid1.Coords) (c0_i32_80 : BitVec 32) : Fin 2 → Nat :=
  let arg0 : BitVec 32 := BitVec.ofNat 32 (i 0).val
  let c2_i32_79 : BitVec 32 := 2#32
  let v192 : BitVec 32 := Scalar.muli arg0 c2_i32_79
  let v193 : BitVec 32 := Scalar.addi v192 c0_i32_80
  let v194 : Index := Scalar.indexCast v193
  let c16 : Index := 16#32
  ![v194.toNat, 16]
def k1_off18 (i : grid1.Coords) (c0_i32_85 : BitVec 32) : Fin 2 → Nat :=
  let arg0 : BitVec 32 := BitVec.ofNat 32 (i 0).val
  let c2_i32_84 : BitVec 32 := 2#32
  let v204 : BitVec 32 := Scalar.muli arg0 c2_i32_84
  let v205 : BitVec 32 := Scalar.addi v204 c0_i32_85
  let v206 : Index := Scalar.indexCast v205
  let c17 : Index := 17#32
  ![v206.toNat, 17]
def k1_off19 (i : grid1.Coords) (c0_i32_90 : BitVec 32) : Fin 2 → Nat :=
  let arg0 : BitVec 32 := BitVec.ofNat 32 (i 0).val
  let c2_i32_89 : BitVec 32 := 2#32
  let v216 : BitVec 32 := Scalar.muli arg0 c2_i32_89
  let v217 : BitVec 32 := Scalar.addi v216 c0_i32_90
  let v218 : Index := Scalar.indexCast v217
  let c18 : Index := 18#32
  ![v218.toNat, 18]
def k1_off20 (i : grid1.Coords) (c0_i32_95 : BitVec 32) : Fin 2 → Nat :=
  let arg0 : BitVec 32 := BitVec.ofNat 32 (i 0).val
  let c2_i32_94 : BitVec 32 := 2#32
  let v228 : BitVec 32 := Scalar.muli arg0 c2_i32_94
  let v229 : BitVec 32 := Scalar.addi v228 c0_i32_95
  let v230 : Index := Scalar.indexCast v229
  let c19 : Index := 19#32
  ![v230.toNat, 19]
def k1_off21 (i : grid1.Coords) (c0_i32_100 : BitVec 32) : Fin 2 → Nat :=
  let arg0 : BitVec 32 := BitVec.ofNat 32 (i 0).val
  let c2_i32_99 : BitVec 32 := 2#32
  let v240 : BitVec 32 := Scalar.muli arg0 c2_i32_99
  let v241 : BitVec 32 := Scalar.addi v240 c0_i32_100
  let v242 : Index := Scalar.indexCast v241
  let c20 : Index := 20#32
  ![v242.toNat, 20]
def k1_off22 (i : grid1.Coords) (c0_i32_105 : BitVec 32) : Fin 2 → Nat :=
  let arg0 : BitVec 32 := BitVec.ofNat 32 (i 0).val
  let c2_i32_104 : BitVec 32 := 2#32
  let v252 : BitVec 32 := Scalar.muli arg0 c2_i32_104
  let v253 : BitVec 32 := Scalar.addi v252 c0_i32_105
  let v254 : Index := Scalar.indexCast v253
  let c21 : Index := 21#32
  ![v254.toNat, 21]
def k1_off23 (i : grid1.Coords) (c0_i32_110 : BitVec 32) : Fin 2 → Nat :=
  let arg0 : BitVec 32 := BitVec.ofNat 32 (i 0).val
  let c2_i32_109 : BitVec 32 := 2#32
  let v264 : BitVec 32 := Scalar.muli arg0 c2_i32_109
  let v265 : BitVec 32 := Scalar.addi v264 c0_i32_110
  let v266 : Index := Scalar.indexCast v265
  let c22 : Index := 22#32
  ![v266.toNat, 22]
def k1_off24 (i : grid1.Coords) (c0_i32_115 : BitVec 32) : Fin 2 → Nat :=
  let arg0 : BitVec 32 := BitVec.ofNat 32 (i 0).val
  let c2_i32_114 : BitVec 32 := 2#32
  let v276 : BitVec 32 := Scalar.muli arg0 c2_i32_114
  let v277 : BitVec 32 := Scalar.addi v276 c0_i32_115
  let v278 : Index := Scalar.indexCast v277
  let c23 : Index := 23#32
  ![v278.toNat, 23]
def k1_off25 (i : grid1.Coords) (c0_i32_120 : BitVec 32) : Fin 2 → Nat :=
  let arg0 : BitVec 32 := BitVec.ofNat 32 (i 0).val
  let c2_i32_119 : BitVec 32 := 2#32
  let v288 : BitVec 32 := Scalar.muli arg0 c2_i32_119
  let v289 : BitVec 32 := Scalar.addi v288 c0_i32_120
  let v290 : Index := Scalar.indexCast v289
  let c24 : Index := 24#32
  ![v290.toNat, 24]
def k1_off26 (i : grid1.Coords) (c0_i32_125 : BitVec 32) : Fin 2 → Nat :=
  let arg0 : BitVec 32 := BitVec.ofNat 32 (i 0).val
  let c2_i32_124 : BitVec 32 := 2#32
  let v300 : BitVec 32 := Scalar.muli arg0 c2_i32_124
  let v301 : BitVec 32 := Scalar.addi v300 c0_i32_125
  let v302 : Index := Scalar.indexCast v301
  let c25 : Index := 25#32
  ![v302.toNat, 25]
def k1_off27 (i : grid1.Coords) (c0_i32_130 : BitVec 32) : Fin 2 → Nat :=
  let arg0 : BitVec 32 := BitVec.ofNat 32 (i 0).val
  let c2_i32_129 : BitVec 32 := 2#32
  let v312 : BitVec 32 := Scalar.muli arg0 c2_i32_129
  let v313 : BitVec 32 := Scalar.addi v312 c0_i32_130
  let v314 : Index := Scalar.indexCast v313
  let c26 : Index := 26#32
  ![v314.toNat, 26]
def k1_off28 (i : grid1.Coords) (c0_i32_135 : BitVec 32) : Fin 2 → Nat :=
  let arg0 : BitVec 32 := BitVec.ofNat 32 (i 0).val
  let c2_i32_134 : BitVec 32 := 2#32
  let v324 : BitVec 32 := Scalar.muli arg0 c2_i32_134
  let v325 : BitVec 32 := Scalar.addi v324 c0_i32_135
  let v326 : Index := Scalar.indexCast v325
  let c27 : Index := 27#32
  ![v326.toNat, 27]
def k1_off29 (i : grid1.Coords) (c0_i32_140 : BitVec 32) : Fin 2 → Nat :=
  let arg0 : BitVec 32 := BitVec.ofNat 32 (i 0).val
  let c2_i32_139 : BitVec 32 := 2#32
  let v336 : BitVec 32 := Scalar.muli arg0 c2_i32_139
  let v337 : BitVec 32 := Scalar.addi v336 c0_i32_140
  let v338 : Index := Scalar.indexCast v337
  let c28 : Index := 28#32
  ![v338.toNat, 28]
def k1_off30 (i : grid1.Coords) (c0_i32_145 : BitVec 32) : Fin 2 → Nat :=
  let arg0 : BitVec 32 := BitVec.ofNat 32 (i 0).val
  let c2_i32_144 : BitVec 32 := 2#32
  let v348 : BitVec 32 := Scalar.muli arg0 c2_i32_144
  let v349 : BitVec 32 := Scalar.addi v348 c0_i32_145
  let v350 : Index := Scalar.indexCast v349
  let c29 : Index := 29#32
  ![v350.toNat, 29]
def k1_off31 (i : grid1.Coords) (c0_i32_150 : BitVec 32) : Fin 2 → Nat :=
  let arg0 : BitVec 32 := BitVec.ofNat 32 (i 0).val
  let c2_i32_149 : BitVec 32 := 2#32
  let v360 : BitVec 32 := Scalar.muli arg0 c2_i32_149
  let v361 : BitVec 32 := Scalar.addi v360 c0_i32_150
  let v362 : Index := Scalar.indexCast v361
  let c30 : Index := 30#32
  ![v362.toNat, 30]
def k1_off32 (i : grid1.Coords) (c0_i32_155 : BitVec 32) : Fin 2 → Nat :=
  let arg0 : BitVec 32 := BitVec.ofNat 32 (i 0).val
  let c2_i32_154 : BitVec 32 := 2#32
  let v372 : BitVec 32 := Scalar.muli arg0 c2_i32_154
  let v373 : BitVec 32 := Scalar.addi v372 c0_i32_155
  let v374 : Index := Scalar.indexCast v373
  let c31 : Index := 31#32
  ![v374.toNat, 31]
def k1_off33 (i : grid1.Coords) (c0_i32_160 : BitVec 32) : Fin 2 → Nat :=
  let arg0 : BitVec 32 := BitVec.ofNat 32 (i 0).val
  let c2_i32_159 : BitVec 32 := 2#32
  let v384 : BitVec 32 := Scalar.muli arg0 c2_i32_159
  let v385 : BitVec 32 := Scalar.addi v384 c0_i32_160
  let v386 : Index := Scalar.indexCast v385
  let c32 : Index := 32#32
  ![v386.toNat, 32]
def k1_off34 (i : grid1.Coords) (c0_i32_165 : BitVec 32) : Fin 2 → Nat :=
  let arg0 : BitVec 32 := BitVec.ofNat 32 (i 0).val
  let c2_i32_164 : BitVec 32 := 2#32
  let v396 : BitVec 32 := Scalar.muli arg0 c2_i32_164
  let v397 : BitVec 32 := Scalar.addi v396 c0_i32_165
  let v398 : Index := Scalar.indexCast v397
  let c33 : Index := 33#32
  ![v398.toNat, 33]
def k1_off35 (i : grid1.Coords) (c0_i32_170 : BitVec 32) : Fin 2 → Nat :=
  let arg0 : BitVec 32 := BitVec.ofNat 32 (i 0).val
  let c2_i32_169 : BitVec 32 := 2#32
  let v408 : BitVec 32 := Scalar.muli arg0 c2_i32_169
  let v409 : BitVec 32 := Scalar.addi v408 c0_i32_170
  let v410 : Index := Scalar.indexCast v409
  let c34 : Index := 34#32
  ![v410.toNat, 34]
def k1_off36 (i : grid1.Coords) (c0_i32_175 : BitVec 32) : Fin 2 → Nat :=
  let arg0 : BitVec 32 := BitVec.ofNat 32 (i 0).val
  let c2_i32_174 : BitVec 32 := 2#32
  let v420 : BitVec 32 := Scalar.muli arg0 c2_i32_174
  let v421 : BitVec 32 := Scalar.addi v420 c0_i32_175
  let v422 : Index := Scalar.indexCast v421
  let c35 : Index := 35#32
  ![v422.toNat, 35]
def k1_off37 (i : grid1.Coords) (c0_i32_180 : BitVec 32) : Fin 2 → Nat :=
  let arg0 : BitVec 32 := BitVec.ofNat 32 (i 0).val
  let c2_i32_179 : BitVec 32 := 2#32
  let v432 : BitVec 32 := Scalar.muli arg0 c2_i32_179
  let v433 : BitVec 32 := Scalar.addi v432 c0_i32_180
  let v434 : Index := Scalar.indexCast v433
  let c36 : Index := 36#32
  ![v434.toNat, 36]
def k1_off38 (i : grid1.Coords) (c0_i32_185 : BitVec 32) : Fin 2 → Nat :=
  let arg0 : BitVec 32 := BitVec.ofNat 32 (i 0).val
  let c2_i32_184 : BitVec 32 := 2#32
  let v444 : BitVec 32 := Scalar.muli arg0 c2_i32_184
  let v445 : BitVec 32 := Scalar.addi v444 c0_i32_185
  let v446 : Index := Scalar.indexCast v445
  let c37 : Index := 37#32
  ![v446.toNat, 37]
def k1_off39 (i : grid1.Coords) (c0_i32_190 : BitVec 32) : Fin 2 → Nat :=
  let arg0 : BitVec 32 := BitVec.ofNat 32 (i 0).val
  let c2_i32_189 : BitVec 32 := 2#32
  let v456 : BitVec 32 := Scalar.muli arg0 c2_i32_189
  let v457 : BitVec 32 := Scalar.addi v456 c0_i32_190
  let v458 : Index := Scalar.indexCast v457
  let c38 : Index := 38#32
  ![v458.toNat, 38]
def k1_off40 (i : grid1.Coords) (c0_i32_195 : BitVec 32) : Fin 2 → Nat :=
  let arg0 : BitVec 32 := BitVec.ofNat 32 (i 0).val
  let c2_i32_194 : BitVec 32 := 2#32
  let v468 : BitVec 32 := Scalar.muli arg0 c2_i32_194
  let v469 : BitVec 32 := Scalar.addi v468 c0_i32_195
  let v470 : Index := Scalar.indexCast v469
  let c39 : Index := 39#32
  ![v470.toNat, 39]
def k1_off41 (i : grid1.Coords) (c0_i32_200 : BitVec 32) : Fin 2 → Nat :=
  let arg0 : BitVec 32 := BitVec.ofNat 32 (i 0).val
  let c2_i32_199 : BitVec 32 := 2#32
  let v480 : BitVec 32 := Scalar.muli arg0 c2_i32_199
  let v481 : BitVec 32 := Scalar.addi v480 c0_i32_200
  let v482 : Index := Scalar.indexCast v481
  let c40 : Index := 40#32
  ![v482.toNat, 40]
def k1_off42 (i : grid1.Coords) (c0_i32_205 : BitVec 32) : Fin 2 → Nat :=
  let arg0 : BitVec 32 := BitVec.ofNat 32 (i 0).val
  let c2_i32_204 : BitVec 32 := 2#32
  let v492 : BitVec 32 := Scalar.muli arg0 c2_i32_204
  let v493 : BitVec 32 := Scalar.addi v492 c0_i32_205
  let v494 : Index := Scalar.indexCast v493
  let c41 : Index := 41#32
  ![v494.toNat, 41]
def k1_off43 (i : grid1.Coords) (c0_i32_210 : BitVec 32) : Fin 2 → Nat :=
  let arg0 : BitVec 32 := BitVec.ofNat 32 (i 0).val
  let c2_i32_209 : BitVec 32 := 2#32
  let v504 : BitVec 32 := Scalar.muli arg0 c2_i32_209
  let v505 : BitVec 32 := Scalar.addi v504 c0_i32_210
  let v506 : Index := Scalar.indexCast v505
  let c42 : Index := 42#32
  ![v506.toNat, 42]
def k1_off44 (i : grid1.Coords) (c0_i32_215 : BitVec 32) : Fin 2 → Nat :=
  let arg0 : BitVec 32 := BitVec.ofNat 32 (i 0).val
  let c2_i32_214 : BitVec 32 := 2#32
  let v516 : BitVec 32 := Scalar.muli arg0 c2_i32_214
  let v517 : BitVec 32 := Scalar.addi v516 c0_i32_215
  let v518 : Index := Scalar.indexCast v517
  let c43 : Index := 43#32
  ![v518.toNat, 43]
def k1_off45 (i : grid1.Coords) (c0_i32_220 : BitVec 32) : Fin 2 → Nat :=
  let arg0 : BitVec 32 := BitVec.ofNat 32 (i 0).val
  let c2_i32_219 : BitVec 32 := 2#32
  let v528 : BitVec 32 := Scalar.muli arg0 c2_i32_219
  let v529 : BitVec 32 := Scalar.addi v528 c0_i32_220
  let v530 : Index := Scalar.indexCast v529
  let c44 : Index := 44#32
  ![v530.toNat, 44]
def k1_off46 (i : grid1.Coords) (c0_i32_225 : BitVec 32) : Fin 2 → Nat :=
  let arg0 : BitVec 32 := BitVec.ofNat 32 (i 0).val
  let c2_i32_224 : BitVec 32 := 2#32
  let v540 : BitVec 32 := Scalar.muli arg0 c2_i32_224
  let v541 : BitVec 32 := Scalar.addi v540 c0_i32_225
  let v542 : Index := Scalar.indexCast v541
  let c45 : Index := 45#32
  ![v542.toNat, 45]
def k1_off47 (i : grid1.Coords) (c0_i32_230 : BitVec 32) : Fin 2 → Nat :=
  let arg0 : BitVec 32 := BitVec.ofNat 32 (i 0).val
  let c2_i32_229 : BitVec 32 := 2#32
  let v552 : BitVec 32 := Scalar.muli arg0 c2_i32_229
  let v553 : BitVec 32 := Scalar.addi v552 c0_i32_230
  let v554 : Index := Scalar.indexCast v553
  let c46 : Index := 46#32
  ![v554.toNat, 46]
def k1_off48 (i : grid1.Coords) (c0_i32_235 : BitVec 32) : Fin 2 → Nat :=
  let arg0 : BitVec 32 := BitVec.ofNat 32 (i 0).val
  let c2_i32_234 : BitVec 32 := 2#32
  let v564 : BitVec 32 := Scalar.muli arg0 c2_i32_234
  let v565 : BitVec 32 := Scalar.addi v564 c0_i32_235
  let v566 : Index := Scalar.indexCast v565
  let c47 : Index := 47#32
  ![v566.toNat, 47]
def k1_off49 (i : grid1.Coords) (c0_i32_240 : BitVec 32) : Fin 2 → Nat :=
  let arg0 : BitVec 32 := BitVec.ofNat 32 (i 0).val
  let c2_i32_239 : BitVec 32 := 2#32
  let v576 : BitVec 32 := Scalar.muli arg0 c2_i32_239
  let v577 : BitVec 32 := Scalar.addi v576 c0_i32_240
  let v578 : Index := Scalar.indexCast v577
  let c48 : Index := 48#32
  ![v578.toNat, 48]
def k1_off50 (i : grid1.Coords) (c0_i32_245 : BitVec 32) : Fin 2 → Nat :=
  let arg0 : BitVec 32 := BitVec.ofNat 32 (i 0).val
  let c2_i32_244 : BitVec 32 := 2#32
  let v588 : BitVec 32 := Scalar.muli arg0 c2_i32_244
  let v589 : BitVec 32 := Scalar.addi v588 c0_i32_245
  let v590 : Index := Scalar.indexCast v589
  let c49 : Index := 49#32
  ![v590.toNat, 49]
def k1_off51 (i : grid1.Coords) (c0_i32_250 : BitVec 32) : Fin 2 → Nat :=
  let arg0 : BitVec 32 := BitVec.ofNat 32 (i 0).val
  let c2_i32_249 : BitVec 32 := 2#32
  let v600 : BitVec 32 := Scalar.muli arg0 c2_i32_249
  let v601 : BitVec 32 := Scalar.addi v600 c0_i32_250
  let v602 : Index := Scalar.indexCast v601
  let c50 : Index := 50#32
  ![v602.toNat, 50]
def k1_off52 (i : grid1.Coords) (c0_i32_255 : BitVec 32) : Fin 2 → Nat :=
  let arg0 : BitVec 32 := BitVec.ofNat 32 (i 0).val
  let c2_i32_254 : BitVec 32 := 2#32
  let v612 : BitVec 32 := Scalar.muli arg0 c2_i32_254
  let v613 : BitVec 32 := Scalar.addi v612 c0_i32_255
  let v614 : Index := Scalar.indexCast v613
  let c51 : Index := 51#32
  ![v614.toNat, 51]
def k1_off53 (i : grid1.Coords) (c0_i32_260 : BitVec 32) : Fin 2 → Nat :=
  let arg0 : BitVec 32 := BitVec.ofNat 32 (i 0).val
  let c2_i32_259 : BitVec 32 := 2#32
  let v624 : BitVec 32 := Scalar.muli arg0 c2_i32_259
  let v625 : BitVec 32 := Scalar.addi v624 c0_i32_260
  let v626 : Index := Scalar.indexCast v625
  let c52 : Index := 52#32
  ![v626.toNat, 52]
def k1_off54 (i : grid1.Coords) (c0_i32_265 : BitVec 32) : Fin 2 → Nat :=
  let arg0 : BitVec 32 := BitVec.ofNat 32 (i 0).val
  let c2_i32_264 : BitVec 32 := 2#32
  let v636 : BitVec 32 := Scalar.muli arg0 c2_i32_264
  let v637 : BitVec 32 := Scalar.addi v636 c0_i32_265
  let v638 : Index := Scalar.indexCast v637
  let c53 : Index := 53#32
  ![v638.toNat, 53]
def k1_off55 (i : grid1.Coords) (c0_i32_270 : BitVec 32) : Fin 2 → Nat :=
  let arg0 : BitVec 32 := BitVec.ofNat 32 (i 0).val
  let c2_i32_269 : BitVec 32 := 2#32
  let v648 : BitVec 32 := Scalar.muli arg0 c2_i32_269
  let v649 : BitVec 32 := Scalar.addi v648 c0_i32_270
  let v650 : Index := Scalar.indexCast v649
  let c54 : Index := 54#32
  ![v650.toNat, 54]
def k1_off56 (i : grid1.Coords) (c0_i32_275 : BitVec 32) : Fin 2 → Nat :=
  let arg0 : BitVec 32 := BitVec.ofNat 32 (i 0).val
  let c2_i32_274 : BitVec 32 := 2#32
  let v660 : BitVec 32 := Scalar.muli arg0 c2_i32_274
  let v661 : BitVec 32 := Scalar.addi v660 c0_i32_275
  let v662 : Index := Scalar.indexCast v661
  let c55 : Index := 55#32
  ![v662.toNat, 55]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S2048x7168 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x7168 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .smem S40x56 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x256 .fp8e5m2 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x2048x2 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== KernelIdeal.lean ====
abbrev S256x128 : Shape := ⟨2, ![256, 128]⟩
variable {F : FTy → Type} [FloatOps F] [Named F]
def κ : String → Option EReal := fun
  | "ln2" => some ((Real.log 2 : ℝ) : EReal)
  | _ => none
-- ==== ReferenceIdeal.lean ====
abbrev S2x1024x40x128 : Shape := ⟨4, ![2, 1024, 40, 128]⟩
abbrev S2x1024x8x128 : Shape := ⟨4, ![2, 1024, 8, 128]⟩
abbrev S2x1024x5120 : Shape := ⟨3, ![2, 1024, 5120]⟩
abbrev S2x1024 : Shape := ⟨2, ![2, 1024]⟩
abbrev S5120x7168 : Shape := ⟨2, ![5120, 7168]⟩
abbrev S40x56 : Shape := ⟨2, ![40, 56]⟩
abbrev S64 : Shape := ⟨1, ![64]⟩
abbrev S_ : Shape := ⟨0, ![]⟩
abbrev S2x1024x1 : Shape := ⟨3, ![2, 1024, 1]⟩
abbrev S1x1x64 : Shape := ⟨3, ![1, 1, 64]⟩
abbrev S2x1024x64 : Shape := ⟨3, ![2, 1024, 64]⟩
abbrev S2x1024x1x64 : Shape := ⟨4, ![2, 1024, 1, 64]⟩
abbrev S2x1024x40x64 : Shape := ⟨4, ![2, 1024, 40, 64]⟩
abbrev S2x1024x8x64 : Shape := ⟨4, ![2, 1024, 8, 64]⟩
abbrev S2x1024x56x128 : Shape := ⟨4, ![2, 1024, 56, 128]⟩
abbrev S2x1024x7168 : Shape := ⟨3, ![2, 1024, 7168]⟩
abbrev S2x1024x56 : Shape := ⟨3, ![2, 1024, 56]⟩
abbrev S2x1024x40 : Shape := ⟨3, ![2, 1024, 40]⟩
abbrev S2x1024x56x1 : Shape := ⟨4, ![2, 1024, 56, 1]⟩
abbrev S2048x7168 : Shape := ⟨2, ![2048, 7168]⟩
abbrev S40x128x56x128 : Shape := ⟨4, ![40, 128, 56, 128]⟩
abbrev S40x1x56x1 : Shape := ⟨4, ![40, 1, 56, 1]⟩
abbrev S2048x5120 : Shape := ⟨2, ![2048, 5120]⟩
abbrev S2x1024x40x1 : Shape := ⟨4, ![2, 1024, 40, 1]⟩

abbrev nBuf : Space → Nat
  | .hbm => 68
  | .vmem => 9
  | .smem => 0
  | _ => 0

abbrev bufTy : (tb : Table) → Fin (tcTables nBuf tb) → BufTy
  | .hbm, ⟨0, _⟩ => ⟨S2x1024x40x128, .bf16⟩
  | .hbm, ⟨1, _⟩ => ⟨S2x1024x8x128, .bf16⟩
  | .hbm, ⟨2, _⟩ => ⟨S2x1024x8x128, .bf16⟩
  | .hbm, ⟨3, _⟩ => ⟨S2x1024x5120, .bf16⟩
  | .hbm, ⟨4, _⟩ => ⟨S2x1024, .i32⟩
  | .hbm, ⟨5, _⟩ => ⟨S5120x7168, .fp8e4m3⟩
  | .hbm, ⟨6, _⟩ => ⟨S40x56, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S2x1024, .f32⟩
  | .hbm, ⟨24, _⟩ => ⟨S2x1024x1, .f32⟩
  | .hbm, ⟨25, _⟩ => ⟨S1x1x64, .f32⟩
  | .hbm, ⟨26, _⟩ => ⟨S2x1024x64, .f32⟩
  | .hbm, ⟨27, _⟩ => ⟨S2x1024x64, .f32⟩
  | .hbm, ⟨28, _⟩ => ⟨S2x1024x64, .f32⟩
  | .hbm, ⟨29, _⟩ => ⟨S2x1024x64, .f32⟩
  | .hbm, ⟨30, _⟩ => ⟨S2x1024x1x64, .f32⟩
  | .hbm, ⟨31, _⟩ => ⟨S2x1024x64, .f32⟩
  | .hbm, ⟨32, _⟩ => ⟨S2x1024x1x64, .f32⟩
  | .hbm, ⟨33, _⟩ => ⟨S2x1024x40x128, .f32⟩
  | .hbm, ⟨34, _⟩ => ⟨S2x1024x40x64, .f32⟩
  | .hbm, ⟨35, _⟩ => ⟨S2x1024x40x64, .f32⟩
  | .hbm, ⟨36, _⟩ => ⟨S2x1024x40x64, .f32⟩
  | .hbm, ⟨37, _⟩ => ⟨S2x1024x40x64, .f32⟩
  | .hbm, ⟨38, _⟩ => ⟨S2x1024x40x64, .f32⟩
  | .hbm, ⟨39, _⟩ => ⟨S2x1024x40x64, .f32⟩
  | .hbm, ⟨40, _⟩ => ⟨S2x1024x40x64, .f32⟩
  | .hbm, ⟨41, _⟩ => ⟨S2x1024x40x64, .f32⟩
  | .hbm, ⟨42, _⟩ => ⟨S2x1024x40x64, .f32⟩
  | .hbm, ⟨43, _⟩ => ⟨S2x1024x40x64, .f32⟩
  | .hbm, ⟨44, _⟩ => ⟨S2x1024x40x64, .f32⟩
  | .hbm, ⟨45, _⟩ => ⟨S2x1024x40x64, .f32⟩
  | .hbm, ⟨46, _⟩ => ⟨S2x1024x40x128, .f32⟩
  | .hbm, ⟨47, _⟩ => ⟨S2x1024x8x128, .f32⟩
  | .hbm, ⟨48, _⟩ => ⟨S2x1024x8x64, .f32⟩
  | .hbm, ⟨49, _⟩ => ⟨S2x1024x8x64, .f32⟩
  | .hbm, ⟨50, _⟩ => ⟨S2x1024x8x64, .f32⟩
  | .hbm, ⟨51, _⟩ => ⟨S2x1024x8x64, .f32⟩
  | .hbm, ⟨52, _⟩ => ⟨S2x1024x8x64, .f32⟩
  | .hbm, ⟨53, _⟩ => ⟨S2x1024x8x64, .f32⟩
  | .hbm, ⟨54, _⟩ => ⟨S2x1024x8x64, .f32⟩
  | .hbm, ⟨55, _⟩ => ⟨S2x1024x8x64, .f32⟩
  | .hbm, ⟨56, _⟩ => ⟨S2x1024x8x64, .f32⟩
  | .hbm, ⟨57, _⟩ => ⟨S2x1024x8x64, .f32⟩
  | .hbm, ⟨58, _⟩ => ⟨S2x1024x8x64, .f32⟩
  | .hbm, ⟨59, _⟩ => ⟨S2x1024x8x64, .f32⟩
  | .hbm, ⟨60, _⟩ => ⟨S2x1024x8x128, .f32⟩
  | .hbm, ⟨61, _⟩ => ⟨S2x1024x8x128, .f32⟩
  | .hbm, ⟨62, _⟩ => ⟨S2x1024x56x128, .f32⟩
  | .hbm, ⟨63, _⟩ => ⟨S2x1024x5120, .bf16⟩
  | .hbm, ⟨64, _⟩ => ⟨S2x1024x7168, .fp8e5m2⟩
  | .hbm, ⟨65, _⟩ => ⟨S2x1024x56, .f32⟩
  | .hbm, ⟨66, _⟩ => ⟨S2x1024x5120, .fp8e5m2⟩
  | .hbm, ⟨67, _⟩ => ⟨S2x1024x40, .f32⟩
  | .local _ .vmem, ⟨0, _⟩ => ⟨S2x1024x56x128, .f32⟩
  | .local _ .vmem, ⟨1, _⟩ => ⟨S2x1024x5120, .bf16⟩
  | .local _ .vmem, ⟨2, _⟩ => ⟨S5120x7168, .fp8e4m3⟩
  | .local _ .vmem, ⟨3, _⟩ => ⟨S40x56, .f32⟩
  | .local _ .vmem, ⟨4, _⟩ => ⟨S2x1024x5120, .bf16⟩
  | .local _ .vmem, ⟨5, _⟩ => ⟨S2x1024x7168, .fp8e5m2⟩
  | .local _ .vmem, ⟨6, _⟩ => ⟨S2x1024x56, .f32⟩
  | .local _ .vmem, ⟨7, _⟩ => ⟨S2x1024x5120, .fp8e5m2⟩
  | .local _ .vmem, ⟨8, _⟩ => ⟨S2x1024x40, .f32⟩
  | _, _ => ⟨S2x1024x40x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51_0 : Ref sig .tc := ⟨.hbm, 63, rfl⟩
abbrev main_v51_1 : Ref sig .tc := ⟨.hbm, 64, rfl⟩
abbrev main_v51_2 : Ref sig .tc := ⟨.hbm, 65, rfl⟩
abbrev main_v51_3 : Ref sig .tc := ⟨.hbm, 66, rfl⟩
abbrev main_v51_4 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S2x1024x56x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x56 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024x7168 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x56 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024x5120 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024x40 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Spec.lean ====
/-
  The scalar vocabulary both programs are read down to: what the quantiser makes of one group of 128 values, and the
  rotation of one head, as functions on the extended reals.
-/
module

public import Idealize.ShloMosaic.PureOps.Ideal

@[expose] public section

noncomputable section

namespace Cert.Spec

open Idealize.ShloMosaic

/-- The largest magnitude of a group of 128 values. -/
def amax (v : Fin 128 → EReal) : EReal :=
  Finset.univ.fold max (Ideal.ofBits .f32 0xFF800000#32) fun k => FloatOps.absf (F := Ideal) (φ := .f32) (v k)

/-- The largest magnitude over the format's largest value. -/
def ratio (v : Fin 128 → EReal) : EReal := amax v * Ideal.ofBits .f32 0x37924925#32

/-- The kernel's exponent of a group, less one: the floor of the base-two logarithm of `ratio`, a zero ratio read
    as a half. -/
def field (v : Fin 128 → EReal) : EReal :=
  Ideal.liftRound Int.floor (Ideal.div
    (Ideal.log (if ratio v = 0 then Ideal.ofBits .f32 0x3F000000#32 else ratio v)) ((Real.log 2 : ℝ) : EReal))

/-- The group's scale. -/
def scale (v : Fin 128 → EReal) : EReal := Ideal.exp2 (field v + 1)

/-- The group's code at lane `k`. -/
def code (v : Fin 128 → EReal) (k : Fin 128) : EReal :=
  min (Ideal.ofBits .f32 0x47600000#32) (max (Ideal.ofBits .f32 0xC7600000#32)
    (v k * Ideal.exp2 (Ideal.ofBits .f32 0xBF800000#32 - field v)))

/-- The value the code at lane `k` stands for. -/
def deq (v : Fin 128 → EReal) (k : Fin 128) : EReal := code v k * scale v

/-- One head rotated back by the angles `ang`, as the kernel writes it: the head times the cosines plus the head turned by
    half its lanes times the signed sines. -/
def rope (ang v : Fin 128 → EReal) (k : Fin 128) : EReal :=
  v k * Ideal.cos (ang k)
    + v ⟨(k.val + 128 - 64) % 128, Nat.mod_lt _ (by decide)⟩
      * (if k.val < 64 then Ideal.sin (ang k) else 0 - Ideal.sin (ang k))

/-- Head `h` of a row of 56 heads, out of the row's 40 query heads, 8 key heads (both rotated by `ang`) and 8 value heads. -/
def head (ang : Fin 128 → EReal) (q : Fin 40 → Fin 128 → EReal) (k v : Fin 8 → Fin 128 → EReal) (h : Fin 56) :
    Fin 128 → EReal :=
  if h1 : h.val < 40 then rope ang (q ⟨h, h1⟩)
  else if h2 : h.val < 48 then rope ang (k ⟨h.val - 40, by omega⟩)
  else v ⟨h.val - 48, by omega⟩

/-- The head a lane of a row of 7168 lanes belongs to. -/
def headOf (y : Fin 7168) : Fin 56 := ⟨y.val / 128, by omega⟩

/-- The lane within its head of a lane of a row of 7168 lanes. -/
def laneOf (y : Fin 7168) : Fin 128 := ⟨y.val % 128, by omega⟩

end Cert.Spec

end
-- ==== Proof.RefSpec.lean ====
/-
  The reference's own scalar vocabulary, and that it is the kernel's: the exponent of a group of 128 values, its scale and
  its codes, and the rotation of one head.
-/
module

public import proofs.«01_k».proof.Proof.Spec

@[expose] public section

noncomputable section

namespace Cert.Spec

open Idealize.ShloMosaic

/-- The reference's exponent of a group: one more than the floor of the base-two logarithm of `ratio`, and zero where the
    group is zero. -/
def rexp (v : Fin 128 → EReal) : EReal :=
  if amax v = 0 then 0 else Ideal.liftRound Int.floor (Ideal.div (Ideal.log (ratio v)) ((Real.log 2 : ℝ) : EReal)) + 1

/-- The reference's scale of a group. -/
def rscale (v : Fin 128 → EReal) : EReal := Ideal.exp2 (rexp v)

/-- The reference's code at lane `k`. -/
def rcode (v : Fin 128 → EReal) (k : Fin 128) : EReal :=
  min (Ideal.ofBits .f32 0x47600000#32) (max (Ideal.ofBits .f32 0xC7600000#32) (v k * Ideal.exp2 (0 - rexp v)))

/-- The reference's value at lane `k`. -/
def rdeq (v : Fin 128 → EReal) (k : Fin 128) : EReal := rcode v k * rscale v

/-- The reference's rotation: the two halves of the head against the 64 angles `ang`. -/
def rrope (ang : Fin 64 → EReal) (v : Fin 128 → EReal) (k : Fin 128) : EReal :=
  if h : k.val < 64 then
    v ⟨k.val, by omega⟩ * Ideal.cos (ang ⟨k.val, h⟩) + v ⟨k.val + 64, by omega⟩ * Ideal.sin (ang ⟨k.val, h⟩)
  else
    v ⟨k.val, by omega⟩ * Ideal.cos (ang ⟨k.val - 64, by omega⟩) - v ⟨k.val - 64, by omega⟩ * Ideal.sin (ang ⟨k.val - 64, by omega⟩)

/-- Head `h` of a row, the rotated heads rotated as the reference does. -/
def rhead (ang : Fin 64 → EReal) (q : Fin 40 → Fin 128 → EReal) (k v : Fin 8 → Fin 128 → EReal) (h : Fin 56) :
    Fin 128 → EReal :=
  if h1 : h.val < 40 then rrope ang (q ⟨h, h1⟩)
  else if h2 : h.val < 48 then rrope ang (k ⟨h.val - 40, by omega⟩)
  else v ⟨h.val - 48, by omega⟩

/-- The reciprocal of the format's largest value is not zero. -/
theorem recip_ne_zero : Ideal.ofBits .f32 0x37924925#32 ≠ 0 := by
  have h : Ideal.ofBits .f32 0x37924925#32 = (((9586981 : ℝ) * 2 ^ (-39 : ℤ) : ℝ) : EReal) := by
    simp [Ideal.ofBits, Ideal.ieee]
  rw [h]
  simp

/-- A group's ratio is zero just where its largest magnitude is. -/
theorem ratio_eq_zero (v : Fin 128 → EReal) : ratio v = 0 ↔ amax v = 0 := by
  unfold ratio
  rw [mul_eq_zero]
  exact or_iff_left recip_ne_zero

/-- The base-two logarithm of a half has floor minus one. -/
theorem half_field : Ideal.liftRound Int.floor (Ideal.div (Ideal.log (Ideal.ofBits .f32 0x3F000000#32)) ((Real.log 2 : ℝ) : EReal)) = -1 := by
  have h : Ideal.ofBits .f32 0x3F000000#32 = ((1 / 2 : ℝ) : EReal) := by
    simp [Ideal.ofBits, Ideal.ieee, -EReal.coe_mul]
    norm_num
  have hl : Real.log 2 ≠ 0 := (Real.log_pos (by norm_num)).ne'
  have hm : Real.log (1 / 2) * (1 / Real.log 2) = ((-1 : ℤ) : ℝ) := by
    rw [Real.log_div (by norm_num) (by norm_num), Real.log_one]
    field_simp
    norm_num
  rw [h, Ideal.log_coe, if_neg (by norm_num), Ideal.div_coe hl, ← EReal.coe_mul, hm, Ideal.liftRound_coe, Int.floor_intCast]
  norm_num

/-- The word of minus one denotes it. -/
theorem neg_one_bits : Ideal.ofBits .f32 0xBF800000#32 = -1 := by
  rw [show (-1 : EReal) = ((-(1 : ℝ)) : EReal) by rw [EReal.coe_one]]
  simp [Ideal.ofBits, Ideal.ieee, -EReal.coe_mul, -EReal.coe_neg]
  norm_num

/-- The two exponents agree. -/
theorem rexp_eq (v : Fin 128 → EReal) : rexp v = field v + 1 := by
  unfold rexp field
  by_cases h : amax v = 0
  · rw [if_pos h, if_pos ((ratio_eq_zero v).2 h), half_field]
    exact (show ((0 : ℝ) : EReal) = ((-1 + 1 : ℝ) : EReal) by norm_num).trans (EReal.coe_add _ _)
  · rw [if_neg h, if_neg (fun e => h ((ratio_eq_zero v).1 e))]

/-- The two scales agree. -/
theorem rscale_eq (v : Fin 128 → EReal) : rscale v = scale v := by rw [rscale, scale, rexp_eq]

/-- The two reciprocals of a scale have one exponent. -/
theorem neg_exp (f : EReal) : 0 - (f + 1) = -1 - f := by
  induction f with
  | bot => rfl
  | top => rfl
  | coe x =>
    have e : (0 : ℝ) - (x + 1) = -1 - x := by ring
    exact congrArg (fun r : ℝ => (r : EReal)) e

/-- The two codes agree. -/
theorem rcode_eq (v : Fin 128 → EReal) (k : Fin 128) : rcode v k = code v k := by
  rw [rcode, code, rexp_eq, neg_exp, neg_one_bits]

/-- The two dequantised values agree. -/
theorem rdeq_eq (v : Fin 128 → EReal) (k : Fin 128) : rdeq v k = deq v k := by rw [rdeq, deq, rcode_eq, rscale_eq]

/-- The two rotations agree, the 128 angles being the 64 twice. -/
theorem rrope_eq (ang : Fin 64 → EReal) (v : Fin 128 → EReal) (k : Fin 128) :
    rrope ang v k = rope (fun k => ang ⟨k.val % 64, by omega⟩) v k := by
  unfold rrope rope
  by_cases h : k.val < 64
  · rw [dif_pos h, if_pos h]
    congr 3
    · congr 1; apply Fin.ext; show k.val = k.val % 64; omega
    · apply Fin.ext; show k.val + 64 = (k.val + 128 - 64) % 128; omega
    · congr 1; apply Fin.ext; show k.val = k.val % 64; omega
  · rw [dif_neg h, if_neg h, zero_sub, mul_neg, ← sub_eq_add_neg]
    congr 3
    · congr 1; apply Fin.ext; show k.val - 64 = k.val % 64; omega
    · apply Fin.ext; show k.val - 64 = (k.val + 128 - 64) % 128; omega
    · congr 1; apply Fin.ext; show k.val - 64 = k.val % 64; omega

/-- The two heads agree. -/
theorem rhead_eq (ang : Fin 64 → EReal) (q : Fin 40 → Fin 128 → EReal) (k v : Fin 8 → Fin 128 → EReal) (h : Fin 56) :
    rhead ang q k v h = head (fun k => ang ⟨k.val % 64, by omega⟩) q k v h := by
  unfold rhead head
  split
  · funext k; exact rrope_eq _ _ _
  · split
    · funext k; exact rrope_eq _ _ _
    · rfl

end Cert.Spec

end
-- ==== Proof.Rows.lean ====
/-
  The rows both programs quantise, from the arguments: the rotation's frequencies and a head of a row at its position.
-/
module

public import proofs.«01_k».proof.Proof.RefSpec

@[expose] public section

set_option maxRecDepth 16384

noncomputable section

namespace Cert.Spec

open Idealize.ShloMosaic

/-- Frequency `j` of the rotation: one over the base to the power `2 j / 128`. -/
def freq (j : Fin 64) : EReal :=
  Ideal.div 1 (Ideal.pow (Ideal.ofBits .f32 0x461C4000#32)
    (Ideal.div (Ideal.ofBits .f32 0x40000000#32 * FloatOps.sitofp (F := Ideal) .f32 (BitVec.ofNat 32 j.val)) (Ideal.ofBits .f32 0x43000000#32)))

/-- The angle of frequency `j` at position `p`. -/
def angle (p : BitVec 32) (j : Fin 64) : EReal := FloatOps.sitofp (F := Ideal) .f32 p * freq j

/-- Head `h` of a row at position `p`. -/
def rowHead (p : BitVec 32) (q : Fin 40 → Fin 128 → EReal) (k v : Fin 8 → Fin 128 → EReal) (h : Fin 56) : Fin 128 → EReal :=
  head (fun l => angle p ⟨l.val % 64, Nat.mod_lt _ (by decide)⟩) q k v h

/-- A head depends on the row's angles and values alone. -/
theorem head_congr {a a' : Fin 128 → EReal} {q q' : Fin 40 → Fin 128 → EReal} {k k' v v' : Fin 8 → Fin 128 → EReal}
    (ha : ∀ l, a l = a' l) (hq : ∀ h l, q h l = q' h l) (hk : ∀ h l, k h l = k' h l) (hv : ∀ h l, v h l = v' h l) (h : Fin 56) :
    head a q k v h = head a' q' k' v' h := by
  obtain rfl : a = a' := funext ha
  obtain rfl : q = q' := funext fun h => funext (hq h)
  obtain rfl : k = k' := funext fun h => funext (hk h)
  obtain rfl : v = v' := funext fun h => funext (hv h)
  rfl

/-- The reference's head of a row is the same. -/
theorem rowHead_eq (p : BitVec 32) (q : Fin 40 → Fin 128 → EReal) (k v : Fin 8 → Fin 128 → EReal) (h : Fin 56) :
    rhead (angle p) q k v h = rowHead p q k v h := rhead_eq _ _ _ _ _

end Cert.Spec

end
-- ==== Proof.QuantBlock.lean ====
/-
  What one block of the quantising call computes: its three outputs, at an index, from the blocks of its five inputs.
-/
module

public import proofs.«01_k».proof.Proof.Gen.KernelIdeal.Skeleton
public import proofs.«01_k».proof.Proof.Spec
public import Idealize.ShloMosaic.Lib.Pointwise
public import Idealize.ShloMosaic.Lib.Pipeline.Value

@[expose] public section

set_option maxRecDepth 16384

noncomputable section

namespace Cert.KernelIdeal.Block

open Idealize.ShloMosaic Cert.KernelIdeal Cert.KernelIdeal.Gen Idealize.SL.Sem

/-- The named constant of the quantiser denotes the natural logarithm of two. -/
theorem ln2_eq : Named.named (F := Ideal) Cert.KernelIdeal.κ "ln2" (φ := .f32) 0x3F317218#32 = ((Real.log 2 : ℝ) : EReal) :=
  IdealRules.named_const.ideal_named_scalar _ _ _ _ rfl

/-! ## The pieces of the body as vector functions -/

/-- The exponent column of a tile of groups, less one. -/
def fieldV (g : FVec Ideal S128x128 .f32) : FVec Ideal S128x1 .f32 :=
  have a := shapeCast S128x1 (multiReduction .maximumf [1] S128 (absf g) 0xFF800000#32 reduces_S128x128_S128 (.inl rfl) rfl) shapeCasts_S128_S128x1
  have p := mulf a (broadcast S128x1 (Scalar.ofBits .f32 0x37924925#32))
  have q := select (cmpf .oeq p (broadcast S128x1 (Scalar.ofBits .f32 0x00000000#32)))
    (broadcast S128x1 (Scalar.ofBits .f32 0x3F000000#32)) p
  floor (divf (log q) (broadcast S128x1 (Named.named κ "ln2" 0x3F317218#32)))

/-- A tile of groups rotated. -/
def ropeV (c sn g : FVec Ideal S128x128 .f32) : FVec Ideal S128x128 .f32 :=
  addf (mulf g c) (mulf (dynamicRotate 1 64#32 none g rotates_S128x128_d1) sn)

/-- One of the two heads a packed load holds. -/
def halfV (p : Fin 2) (raw : Vec Ideal S128x2x128 .bf16) : FVec Ideal S128x128 .f32 :=
  have y : FVec Ideal S128x128 .bf16 :=
    shapeCast S128x128 (rowsOfParity p S128x1x128 raw bitcasts_S128x2x128_w16_S128x1x128_w32) shapeCasts_S128x1x128_S128x128
  extf .f32 y

/-- One of the two heads a packed load holds, rotated by the block's angles. -/
def rotV (x0 : Vec Ideal S128x1 .i32) (x1 : Vec Ideal S1x128 .f32) (p : Fin 2) (raw : Vec Ideal S128x2x128 .bf16) :
    FVec Ideal S128x128 .f32 :=
  ropeV (k0_pay2 x0 x1) (k0_pay3 x0 x1) (halfV p raw)

/-- One more column of the scales: column `n` is the tile's scales, the rest as before. -/
def selV (n : BitVec 32) (g : FVec Ideal S128x128 .f32) (prev : FVec Ideal S128x56 .f32) : FVec Ideal S128x56 .f32 :=
  select (cmpi .eq (iota .tc S128x56 32 [1] iota_S128x56_d1_w32) (broadcast S128x56 n))
    (broadcastTo S128x56 (shapeCast S128x1 (k0_pay8 (fieldV g)) shapeCasts_S128x1_S128x1) broadcasts_S128x1_S128x56) prev

/-- The exponent column is each row's exponent, less one. -/
theorem fieldV_apply (g : FVec Ideal S128x128 .f32) (r : Fin 128) (z : Fin 1) :
    fieldV g (ix2 r z) = Spec.field fun k => g (ix2 r k) := by
  pointwise [fieldV, ln2_eq]
  rfl

/-- The codes of a tile are each row's codes. -/
theorem code_apply (g : FVec Ideal S128x128 .f32) (r k : Fin 128) :
    k0_pay9 g (fieldV g) (ix2 r k) = Spec.code (fun k => g (ix2 r k)) k := by
  pointwise [k0_pay9, fieldV_apply]
  rfl

/-- The dequantised tile is each row's dequantised values. -/
theorem deq_apply (g : FVec Ideal S128x128 .f32) (r k : Fin 128) :
    k0_pay10 g (fieldV g) (ix2 r k) = Spec.deq (fun k => g (ix2 r k)) k := by
  pointwise [k0_pay10, k0_pay9, k0_pay8, fieldV_apply]
  rfl

/-- One more column of the scales, at an index. -/
theorem sel_apply (n : BitVec 32) (g : FVec Ideal S128x128 .f32) (prev) (r : Fin 128) (h : Fin 56) :
    selV n g prev (ix2 r h) = if BitVec.ofNat 32 h.val = n then Spec.scale (fun k => g (ix2 r k)) else prev (ix2 r h) := by
  pointwise [selV, k0_pay8, fieldV_apply]
  simp only [Scalar.select, IntOp.cmpi]
  by_cases hh : BitVec.ofNat 32 h.val = n
  · simp [hh]; rfl
  · have hb : (BitVec.ofNat 32 h.val == n) = false := by simpa using hh
    simp [hh, hb]

/-- The block's angle at a row and a lane. -/
def angB (x0 : Vec Ideal S128x1 .i32) (x1 : Vec Ideal S1x128 .f32) (r k : Fin 128) : EReal :=
  FloatOps.sitofp (F := Ideal) .f32 (x0 (ix2 r 0)) * x1 (ix2 0 k)

/-- The choice by lanes below 64, made on words. -/
theorem slt64 (k : Fin 128) (a b : EReal) :
    Scalar.select (IntOp.cmpi CmpIPredicate.slt (BitVec.ofNat 32 k.val) 64#32) a b = if k.val < 64 then a else b := by
  have : IntOp.cmpi CmpIPredicate.slt (BitVec.ofNat 32 k.val) 64#32 = if k.val < 64 then 1#1 else 0#1 := by
    revert k; decide
  rw [this]; split <;> rfl

/-- A rotated head of a packed load, at an index. -/
theorem rot_apply (x0 : Vec Ideal S128x1 .i32) (x1 : Vec Ideal S1x128 .f32) (p : Fin 2) (raw : Vec Ideal S128x2x128 .bf16)
    (r k : Fin 128) : rotV x0 x1 p raw (ix2 r k) = Spec.rope (angB x0 x1 r) (fun k => raw (ix3 r p k)) k := by
  pointwise [rotV, ropeV, halfV, k0_pay3, k0_pay2, k0_pay1, slt64]
  rfl

/-- A head of a packed load, at an index. -/
theorem half_apply (p : Fin 2) (raw : Vec Ideal S128x2x128 .bf16) (r k : Fin 128) :
    halfV p raw (ix2 r k) = raw (ix3 r p k) := by
  pointwise [halfV]

end Cert.KernelIdeal.Block
-- ==== Proof.QuantOut.lean ====
/-
  The three outputs of one block of the quantising call, at an index: the 56 stores of each of the two wide outputs are
  one function of the lane, and the 56 selects of the scales are one function of the head.
-/
module

public import proofs.«01_k».proof.Proof.Gen.KernelIdeal.Frame
public import proofs.«01_k».proof.Proof.QuantBlock

@[expose] public section

set_option maxRecDepth 16384

noncomputable section

namespace Cert.KernelIdeal.Block

open Idealize.ShloMosaic Cert.KernelIdeal Cert.KernelIdeal.Gen Idealize.SL.Sem

/-- The two heads of a packed load that starts at head `o` of the query (or key, or value) block. -/
abbrev pairQ (o : Nat) (inb : ∀ a, (![0, o, 0] : Fin 3 → Nat) a + S128x2x128.size a ≤ S128x40x128.size a) : Rect S128x40x128 :=
  Rect.unit (s := S128x40x128) ![0, o, 0] S128x2x128.size inb
/-- The same of a block of eight heads. -/
abbrev pairK (o : Nat) (inb : ∀ a, (![0, o, 0] : Fin 3 → Nat) a + S128x2x128.size a ≤ S128x8x128.size a) : Rect S128x8x128 :=
  Rect.unit (s := S128x8x128) ![0, o, 0] S128x2x128.size inb
/-- The 128 lanes of a wide output that start at lane `d`. -/
abbrev tileAt (d : Nat) (inb : ∀ a, (![0, d] : Fin 2 → Nat) a + S128x128.size a ≤ S128x7168.size a) : Rect S128x7168 :=
  Rect.unit (s := S128x7168) ![0, d] S128x128.size inb

section
variable (x0 : Vec Ideal S128x1 .i32) (x1 : Vec Ideal S1x128 .f32) (x2 : Vec Ideal S128x40x128 .bf16)
  (x3 : Vec Ideal S128x8x128 .bf16) (x4 : Vec Ideal S128x8x128 .bf16)

/-- Head `h` of row `r` of the block. -/
def headB (r : Fin 128) (h : Fin 56) : Fin 128 → EReal :=
  Spec.head (angB x0 x1 r) (fun h k => x2 (ix3 r h k)) (fun h k => x3 (ix3 r h k)) (fun h k => x4 (ix3 r h k)) h

/-- The query tile at heads `o`, `o + 1`, half `p`. -/
def tileQ (p : Fin 2) (o : Nat) (inb : ∀ a, (![0, o, 0] : Fin 3 → Nat) a + S128x2x128.size a ≤ S128x40x128.size a) : FVec Ideal S128x128 .f32 :=
  rotV (View.ld x0 r0_0) (View.ld x1 r0_1) p (View.ld x2 (pairQ o inb))
/-- The key tile at heads `o`, `o + 1`, half `p`. -/
def tileK (p : Fin 2) (o : Nat) (inb : ∀ a, (![0, o, 0] : Fin 3 → Nat) a + S128x2x128.size a ≤ S128x8x128.size a) : FVec Ideal S128x128 .f32 :=
  rotV (View.ld x0 r0_0) (View.ld x1 r0_1) p (View.ld x3 (pairK o inb))
/-- The value tile at heads `o`, `o + 1`, half `p`. -/
def tileV (p : Fin 2) (o : Nat) (inb : ∀ a, (![0, o, 0] : Fin 3 → Nat) a + S128x2x128.size a ≤ S128x8x128.size a) :
    FVec Ideal S128x128 .f32 := halfV p (View.ld x4 (pairK o inb))

/-- The positions are loaded whole. -/
theorem ld_x0 : View.ld x0 r0_0 = x0 := View.ld_unit_zero (by decide) _ _
/-- The frequencies are loaded whole. -/
theorem ld_x1 : View.ld x1 r0_1 = x1 := View.ld_unit_zero (by decide) _ _

/-- A query tile holds a head of each row. -/
theorem tileQ_apply (p : Fin 2) (o : Nat) (inb) (ho : o + p.val < 40) (r : Fin 128) :
    (fun k => tileQ x0 x1 x2 p o inb (ix2 r k)) = headB x0 x1 x2 x3 x4 r ⟨o + p.val, by omega⟩ := by
  funext k
  rw [headB, Spec.head, dif_pos (show (⟨o + p.val, by omega⟩ : Fin 56).val < 40 from ho), tileQ, rot_apply, ld_x0, ld_x1]
  congr 1
  funext k
  pointwise

/-- A key tile holds a head of each row. -/
theorem tileK_apply (p : Fin 2) (o : Nat) (inb) (ho : o + p.val < 8) (r : Fin 128) :
    (fun k => tileK x0 x1 x3 p o inb (ix2 r k)) = headB x0 x1 x2 x3 x4 r ⟨40 + (o + p.val), by omega⟩ := by
  funext k
  rw [headB, Spec.head, dif_neg (show ¬ (40 + (o + p.val) < 40) by omega),
    dif_pos (show 40 + (o + p.val) < 48 by omega), tileK, rot_apply, ld_x0, ld_x1]
  congr 1
  funext k
  pointwise

/-- A value tile holds a head of each row. -/
theorem tileV_apply (p : Fin 2) (o : Nat) (inb) (ho : o + p.val < 8) (r : Fin 128) :
    (fun k => tileV x4 p o inb (ix2 r k)) = headB x0 x1 x2 x3 x4 r ⟨48 + (o + p.val), by omega⟩ := by
  funext k
  rw [headB, Spec.head, dif_neg (show ¬ (48 + (o + p.val) < 40) by omega),
    dif_neg (show ¬ (48 + (o + p.val) < 48) by omega), tileV, half_apply]
  pointwise

end

/-- What a wide output's tile store puts at lane `d + k` of a row: the function of the head and the lane that its tile is. -/
theorem tile_emb (f : Fin 128 → Fin 56 → Fin 128 → EReal) (h : Fin 56) (d : Nat) (inb) (hd : d = 128 * h.val)
    (x : S128x128.Idx) :
    f (x 0) h (x 1) = (fun y : S128x7168.Idx => f (y 0) (Spec.headOf (y 1)) (Spec.laneOf (y 1))) ((tileAt d inb).emb x) := by
  idx_vars x
  subst hd
  have h0 : ((tileAt (128 * h.val) inb).emb (ix2 x0 x1)) 0 = x0 := by
    apply Fin.ext; simp [Rect.emb, Rect.unit, ix2]
  have h1 : (((tileAt (128 * h.val) inb).emb (ix2 x0 x1)) 1).val = 128 * h.val + x1.val := by
    simp [Rect.emb, Rect.unit, ix2]
  have e1 : Spec.headOf (((tileAt (128 * h.val) inb).emb (ix2 x0 x1)) 1) = h := by
    apply Fin.ext; simp only [Spec.headOf, h1]; omega
  have e2 : Spec.laneOf (((tileAt (128 * h.val) inb).emb (ix2 x0 x1)) 1) = x1 := by
    apply Fin.ext; simp only [Spec.laneOf, h1]; omega
  show f x0 h x1 = f _ (Spec.headOf _) (Spec.laneOf _)
  rw [e1, e2]
  exact congrArg (fun z => f z h x1) h0.symm

/-- What the codes hold at row `y 0`, lane `y 1` of the block. -/
def codesB (H : Fin 128 → Fin 56 → Fin 128 → EReal) (y : S128x7168.Idx) : EReal :=
  Spec.code (H (y 0) (Spec.headOf (y 1))) (Spec.laneOf (y 1))
/-- What the dequantised output holds there. -/
def deqB (H : Fin 128 → Fin 56 → Fin 128 → EReal) (y : S128x7168.Idx) : EReal :=
  Spec.deq (H (y 0) (Spec.headOf (y 1))) (Spec.laneOf (y 1))

/-- The codes of a tile that holds head `h` are the block's codes at that head's lanes. -/
theorem codes_tile (H) (g : FVec Ideal S128x128 .f32) (h : Fin 56) (hg : ∀ r, (fun k => g (ix2 r k)) = H r h)
    (d : Nat) (inb) (hd : d = 128 * h.val) (x : S128x128.Idx) :
    k0_pay9 g (fieldV g) x = codesB H ((tileAt d inb).emb x) :=
  (show k0_pay9 g (fieldV g) x = Spec.code (H (x 0) h) (x 1) from by
    idx_vars x; rw [code_apply, hg]).trans (tile_emb (fun r h k => Spec.code (H r h) k) h d inb hd x)

/-- The dequantised tile that holds head `h` is the block's at that head's lanes. -/
theorem deq_tile (H) (g : FVec Ideal S128x128 .f32) (h : Fin 56) (hg : ∀ r, (fun k => g (ix2 r k)) = H r h)
    (d : Nat) (inb) (hd : d = 128 * h.val) (x : S128x128.Idx) :
    k0_pay10 g (fieldV g) x = deqB H ((tileAt d inb).emb x) :=
  (show k0_pay10 g (fieldV g) x = Spec.deq (H (x 0) h) (x 1) from by
    idx_vars x; rw [deq_apply, hg]).trans (tile_emb (fun r h k => Spec.deq (H r h) k) h d inb hd x)

section
variable (x0 : Vec Ideal S128x1 .i32) (x1 : Vec Ideal S1x128 .f32) (x2 : Vec Ideal S128x40x128 .bf16)
  (x3 : Vec Ideal S128x8x128 .bf16) (x4 : Vec Ideal S128x8x128 .bf16)

/-- The codes of a query tile. -/
theorem codes_q (p : Fin 2) (o : Nat) (inb) (ho : o + p.val < 40) (d : Nat) (inbd) (hd : d = 128 * (o + p.val)) (x : S128x128.Idx) :
    k0_pay9 (tileQ x0 x1 x2 p o inb) (fieldV (tileQ x0 x1 x2 p o inb)) x
      = codesB (headB x0 x1 x2 x3 x4) ((tileAt d inbd).emb x) :=
  codes_tile _ _ ⟨o + p.val, by omega⟩ (tileQ_apply x0 x1 x2 x3 x4 p o inb ho) d inbd hd x

/-- The codes of a key tile. -/
theorem codes_k (p : Fin 2) (o : Nat) (inb) (ho : o + p.val < 8) (d : Nat) (inbd) (hd : d = 128 * (40 + (o + p.val))) (x : S128x128.Idx) :
    k0_pay9 (tileK x0 x1 x3 p o inb) (fieldV (tileK x0 x1 x3 p o inb)) x
      = codesB (headB x0 x1 x2 x3 x4) ((tileAt d inbd).emb x) :=
  codes_tile _ _ ⟨40 + (o + p.val), by omega⟩ (tileK_apply x0 x1 x2 x3 x4 p o inb ho) d inbd hd x

/-- The codes of a value tile. -/
theorem codes_v (p : Fin 2) (o : Nat) (inb) (ho : o + p.val < 8) (d : Nat) (inbd) (hd : d = 128 * (48 + (o + p.val))) (x : S128x128.Idx) :
    k0_pay9 (tileV x4 p o inb) (fieldV (tileV x4 p o inb)) x
      = codesB (headB x0 x1 x2 x3 x4) ((tileAt d inbd).emb x) :=
  codes_tile _ _ ⟨48 + (o + p.val), by omega⟩ (tileV_apply x0 x1 x2 x3 x4 p o inb ho) d inbd hd x

/-- A dequantised query tile. -/
theorem deq_q (p : Fin 2) (o : Nat) (inb) (ho : o + p.val < 40) (d : Nat) (inbd) (hd : d = 128 * (o + p.val)) (x : S128x128.Idx) :
    k0_pay10 (tileQ x0 x1 x2 p o inb) (fieldV (tileQ x0 x1 x2 p o inb)) x
      = deqB (headB x0 x1 x2 x3 x4) ((tileAt d inbd).emb x) :=
  deq_tile _ _ ⟨o + p.val, by omega⟩ (tileQ_apply x0 x1 x2 x3 x4 p o inb ho) d inbd hd x

/-- A dequantised key tile. -/
theorem deq_k (p : Fin 2) (o : Nat) (inb) (ho : o + p.val < 8) (d : Nat) (inbd) (hd : d = 128 * (40 + (o + p.val))) (x : S128x128.Idx) :
    k0_pay10 (tileK x0 x1 x3 p o inb) (fieldV (tileK x0 x1 x3 p o inb)) x
      = deqB (headB x0 x1 x2 x3 x4) ((tileAt d inbd).emb x) :=
  deq_tile _ _ ⟨40 + (o + p.val), by omega⟩ (tileK_apply x0 x1 x2 x3 x4 p o inb ho) d inbd hd x

/-- A dequantised value tile. -/
theorem deq_v (p : Fin 2) (o : Nat) (inb) (ho : o + p.val < 8) (d : Nat) (inbd) (hd : d = 128 * (48 + (o + p.val))) (x : S128x128.Idx) :
    k0_pay10 (tileV x4 p o inb) (fieldV (tileV x4 p o inb)) x
      = deqB (headB x0 x1 x2 x3 x4) ((tileAt d inbd).emb x) :=
  deq_tile _ _ ⟨48 + (o + p.val), by omega⟩ (tileV_apply x0 x1 x2 x3 x4 p o inb ho) d inbd hd x

/-- One more select of the scales' chain: with the columns below `n` in place, the select at column `n` puts that column in place too. -/
theorem sel_step (H : Fin 128 → Fin 56 → Fin 128 → EReal) (g : FVec Ideal S128x128 .f32) (prev : FVec Ideal S128x56 .f32) (n : Nat) (hn : n < 56)
    (hg : ∀ r, (fun k => g (ix2 r k)) = H r ⟨n, hn⟩)
    (ih : ∀ (r : Fin 128) (h : Fin 56), h.val < n → prev (ix2 r h) = Spec.scale (H r h)) :
    ∀ (r : Fin 128) (h : Fin 56), h.val < n + 1 → selV (BitVec.ofNat 32 n) g prev (ix2 r h) = Spec.scale (H r h) := by
  intro r h hh
  rw [sel_apply]
  by_cases e : h.val = n
  · obtain rfl : h = ⟨n, hn⟩ := Fin.ext e
    rw [if_pos rfl, hg]
  · rw [if_neg, ih r h (by omega)]
    intro hb
    have := congrArg BitVec.toNat hb
    simp only [BitVec.toNat_ofNat] at this
    omega

/-- The step of the scales at a query tile. -/
theorem sel_q (p : Fin 2) (o : Nat) (inb) (ho : o + p.val < 40) (b : BitVec 32) (hb : b = BitVec.ofNat 32 (o + p.val)) (n : Nat) (hn : n = (o + p.val) + 1)
    (prev : FVec Ideal S128x56 .f32)
    (ih : ∀ (r : Fin 128) (h : Fin 56), h.val < (o + p.val) → prev (ix2 r h) = Spec.scale (headB x0 x1 x2 x3 x4 r h)) :
    ∀ (r : Fin 128) (h : Fin 56), h.val < n →
      selV b (tileQ x0 x1 x2 p o inb) prev (ix2 r h) = Spec.scale (headB x0 x1 x2 x3 x4 r h) := by
  subst hb hn
  exact sel_step (headB x0 x1 x2 x3 x4) _ prev (o + p.val) (by omega) (tileQ_apply x0 x1 x2 x3 x4 p o inb ho) ih

/-- The step of the scales at a key tile. -/
theorem sel_k (p : Fin 2) (o : Nat) (inb) (ho : o + p.val < 8) (b : BitVec 32) (hb : b = BitVec.ofNat 32 (40 + (o + p.val))) (n : Nat) (hn : n = (40 + (o + p.val)) + 1)
    (prev : FVec Ideal S128x56 .f32)
    (ih : ∀ (r : Fin 128) (h : Fin 56), h.val < (40 + (o + p.val)) → prev (ix2 r h) = Spec.scale (headB x0 x1 x2 x3 x4 r h)) :
    ∀ (r : Fin 128) (h : Fin 56), h.val < n →
      selV b (tileK x0 x1 x3 p o inb) prev (ix2 r h) = Spec.scale (headB x0 x1 x2 x3 x4 r h) := by
  subst hb hn
  exact sel_step (headB x0 x1 x2 x3 x4) _ prev (40 + (o + p.val)) (by omega) (tileK_apply x0 x1 x2 x3 x4 p o inb ho) ih

/-- The step of the scales at a value tile. -/
theorem sel_v (p : Fin 2) (o : Nat) (inb) (ho : o + p.val < 8) (b : BitVec 32) (hb : b = BitVec.ofNat 32 (48 + (o + p.val))) (n : Nat) (hn : n = (48 + (o + p.val)) + 1)
    (prev : FVec Ideal S128x56 .f32)
    (ih : ∀ (r : Fin 128) (h : Fin 56), h.val < (48 + (o + p.val)) → prev (ix2 r h) = Spec.scale (headB x0 x1 x2 x3 x4 r h)) :
    ∀ (r : Fin 128) (h : Fin 56), h.val < n →
      selV b (tileV x4 p o inb) prev (ix2 r h) = Spec.scale (headB x0 x1 x2 x3 x4 r h) := by
  subst hb hn
  exact sel_step (headB x0 x1 x2 x3 x4) _ prev (48 + (o + p.val)) (by omega) (tileV_apply x0 x1 x2 x3 x4 p o inb ho) ih

attribute [local irreducible] multiReduction shapeCast broadcastTo select dynamicRotate rowsOfParity extf truncf cmpf
  mulf addf subf maximumf minimumf exp2 log floor divf absf broadcast

/-- The block's codes. -/
theorem out5_apply (y : S128x7168.Idx) : out0_5 x0 x1 x2 x3 x4 y = codesB (headB x0 x1 x2 x3 x4) y := by
  refine View.canon_apply_of_pieces (Val := Elt Ideal) (codesB (headB x0 x1 x2 x3 x4)) _ ?_ y (cover0_5 _ _ _ _ _ _ _ _ _ _ _ _ _ _ _ _ _ _ _ _ _ _ _ _ _ _ _ _ _ _ _ _ _ _ _ _ _ _ _ _ _ _ _ _ _ _ _ _ _ _ _ _ _ _ _ _ y)
  dsimp only
  iterate 8 refine List.forall_mem_cons.2 ⟨fun x => codes_v x0 x1 x2 x3 x4 _ _ (by decide) (by decide) _ (by decide) (by rfl) x, ?_⟩
  iterate 8 refine List.forall_mem_cons.2 ⟨fun x => codes_k x0 x1 x2 x3 x4 _ _ (by decide) (by decide) _ (by decide) (by rfl) x, ?_⟩
  iterate 40 refine List.forall_mem_cons.2 ⟨fun x => codes_q x0 x1 x2 x3 x4 _ _ (by decide) (by decide) _ (by decide) (by rfl) x, ?_⟩
  exact List.forall_mem_nil _
/-- The block's dequantised rows. -/
theorem out7_apply (y : S128x7168.Idx) : out0_7 x0 x1 x2 x3 x4 y = deqB (headB x0 x1 x2 x3 x4) y := by
  refine View.canon_apply_of_pieces (Val := Elt Ideal) (deqB (headB x0 x1 x2 x3 x4)) _ ?_ y (cover0_7 _ _ _ _ _ _ _ _ _ _ _ _ _ _ _ _ _ _ _ _ _ _ _ _ _ _ _ _ _ _ _ _ _ _ _ _ _ _ _ _ _ _ _ _ _ _ _ _ _ _ _ _ _ _ _ _ y)
  dsimp only
  iterate 8 refine List.forall_mem_cons.2 ⟨fun x => deq_v x0 x1 x2 x3 x4 _ _ (by decide) (by decide) _ (by decide) (by rfl) x, ?_⟩
  iterate 8 refine List.forall_mem_cons.2 ⟨fun x => deq_k x0 x1 x2 x3 x4 _ _ (by decide) (by decide) _ (by decide) (by rfl) x, ?_⟩
  iterate 40 refine List.forall_mem_cons.2 ⟨fun x => deq_q x0 x1 x2 x3 x4 _ _ (by decide) (by decide) _ (by decide) (by rfl) x, ?_⟩
  exact List.forall_mem_nil _

/-- The block's scales. -/
theorem out6_apply (r : Fin 128) (h : Fin 56) :
    out0_6 x0 x1 x2 x3 x4 (ix2 r h) = Spec.scale (headB x0 x1 x2 x3 x4 r h) := by
  unfold out0_6
  rw [View.canon_unit_zero (by decide)]
  revert r h
  suffices H : ∀ (r : Fin 128) (h : Fin 56), h.val < 56 → _ = Spec.scale (headB x0 x1 x2 x3 x4 r h) from fun r h => H r h h.isLt
  iterate 8 refine sel_v x0 x1 x2 x3 x4 _ _ (by decide) (by decide) _ (by rfl) _ (by rfl) _ ?_
  iterate 8 refine sel_k x0 x1 x2 x3 x4 _ _ (by decide) (by decide) _ (by rfl) _ (by rfl) _ ?_
  iterate 40 refine sel_q x0 x1 x2 x3 x4 _ _ (by decide) (by decide) _ (by rfl) _ (by rfl) _ ?_
  exact fun r h hh => absurd hh (Nat.not_lt_zero _)

end

end Cert.KernelIdeal.Block
-- ==== Proof.QuantArr.lean ====
/-
  The three arrays the quantising call leaves, each as one function of the arrays it is called with.
-/
module

public import proofs.«01_k».proof.Proof.QuantOut

@[expose] public section

set_option maxRecDepth 16384

noncomputable section

namespace Cert.KernelIdeal.Block

open Idealize.ShloMosaic Idealize.ShloMosaic.TcCoe Cert.KernelIdeal Cert.KernelIdeal.Gen Idealize.SL.Sem

/-! ## Where a block's element sits in its array -/

/-- The block of the positions at each point. -/
theorem idx0_0 : ∀ t : Fin cfg0.N, win0_0.index t (0 : Fin 2) = t.val ∧ win0_0.index t (1 : Fin 2) = 0 := (by decide +kernel : ∀ t : Fin grid0.N, _)
/-- The block of the frequencies at each point. -/
theorem idx0_1 : ∀ t : Fin cfg0.N, win0_1.index t (0 : Fin 2) = 0 ∧ win0_1.index t (1 : Fin 2) = 0 := (by decide +kernel : ∀ t : Fin grid0.N, _)
/-- The block of the queries at each point. -/
theorem idx0_2 : ∀ t : Fin cfg0.N, win0_2.index t (0 : Fin 3) = t.val ∧ win0_2.index t (1 : Fin 3) = 0 ∧ win0_2.index t (2 : Fin 3) = 0 := (by decide +kernel : ∀ t : Fin grid0.N, _)
/-- The block of the keys at each point. -/
theorem idx0_3 : ∀ t : Fin cfg0.N, win0_3.index t (0 : Fin 3) = t.val ∧ win0_3.index t (1 : Fin 3) = 0 ∧ win0_3.index t (2 : Fin 3) = 0 := (by decide +kernel : ∀ t : Fin grid0.N, _)
/-- The block of the values at each point. -/
theorem idx0_4 : ∀ t : Fin cfg0.N, win0_4.index t (0 : Fin 3) = t.val ∧ win0_4.index t (1 : Fin 3) = 0 ∧ win0_4.index t (2 : Fin 3) = 0 := (by decide +kernel : ∀ t : Fin grid0.N, _)
/-- The block of the codes at each point. -/
theorem idx0_5 : ∀ t : Fin cfg0.N, win0_5.index t (0 : Fin 2) = t.val ∧ win0_5.index t (1 : Fin 2) = 0 := (by decide +kernel : ∀ t : Fin grid0.N, _)
/-- The block of the scales at each point. -/
theorem idx0_6 : ∀ t : Fin cfg0.N, win0_6.index t (0 : Fin 2) = t.val ∧ win0_6.index t (1 : Fin 2) = 0 := (by decide +kernel : ∀ t : Fin grid0.N, _)
/-- The block of the dequantised rows at each point. -/
theorem idx0_7 : ∀ t : Fin cfg0.N, win0_7.index t (0 : Fin 2) = t.val ∧ win0_7.index t (1 : Fin 2) = 0 := (by decide +kernel : ∀ t : Fin grid0.N, _)

/-- There are sixteen points. -/
theorem t0_lt (t : Fin cfg0.N) : t.val < 16 := t.isLt

/-- Row `r` of block `t`. -/
def row0 (t : Fin cfg0.N) (r : Fin 128) : Fin 2048 := ⟨t.val * 128 + r.val, by have := t0_lt t; omega⟩

variable (V : (c : Dev nD) → (b : Ref sig .tc) → Buf (Elt Ideal) ((c : Thread nD τ).loc b)) (c : Dev nD)

/-- An element of a block of the positions, out of the array. -/
theorem blk0_0 (t : Fin cfg0.N) (r : Fin 128) (z : Fin 1) : iblk0 V c 0 t (ix2 r z) = V c main_v13 (ix2 (row0 t r) z) := by
  obtain ⟨e0, e1⟩ := idx0_0 t
  show V c main_v13 (((cfg0.win 0).blk t).view.emb (ix2 r z)) = _
  congr 1; funext a; apply Fin.ext
  match a with
  | ⟨0, _⟩ => show win0_0.index t (0 : Fin 2) * 128 + 1 * r.val = t.val * 128 + r.val; omega
  | ⟨1, _⟩ => show win0_0.index t (1 : Fin 2) * 1 + 1 * z.val = z.val; omega

/-- An element of a block of the frequencies, out of the array. -/
theorem blk0_1 (t : Fin cfg0.N) (z : Fin 1) (k : Fin 128) : iblk0 V c 1 t (ix2 z k) = V c main_v12 (ix2 z k) := by
  obtain ⟨e0, e1⟩ := idx0_1 t
  show V c main_v12 (((cfg0.win 1).blk t).view.emb (ix2 z k)) = _
  congr 1; funext a; apply Fin.ext
  match a with
  | ⟨0, _⟩ => show win0_1.index t (0 : Fin 2) * 1 + 1 * z.val = z.val; omega
  | ⟨1, _⟩ => show win0_1.index t (1 : Fin 2) * 128 + 1 * k.val = k.val; omega

/-- An element of a block of the queries, out of the array. -/
theorem blk0_2 (t : Fin cfg0.N) (r : Fin 128) (h : Fin 40) (k : Fin 128) : iblk0 V c 2 t (ix3 r h k) = V c main_v14 (ix3 (row0 t r) h k) := by
  obtain ⟨e0, e1, e2⟩ := idx0_2 t
  show V c main_v14 (((cfg0.win 2).blk t).view.emb (ix3 r h k)) = _
  congr 1; funext a; apply Fin.ext
  match a with
  | ⟨0, _⟩ => show win0_2.index t (0 : Fin 3) * 128 + 1 * r.val = t.val * 128 + r.val; omega
  | ⟨1, _⟩ => show win0_2.index t (1 : Fin 3) * 40 + 1 * h.val = h.val; omega
  | ⟨2, _⟩ => show win0_2.index t (2 : Fin 3) * 128 + 1 * k.val = k.val; omega

/-- An element of a block of the keys, out of the array. -/
theorem blk0_3 (t : Fin cfg0.N) (r : Fin 128) (h : Fin 8) (k : Fin 128) : iblk0 V c 3 t (ix3 r h k) = V c main_v15 (ix3 (row0 t r) h k) := by
  obtain ⟨e0, e1, e2⟩ := idx0_3 t
  show V c main_v15 (((cfg0.win 3).blk t).view.emb (ix3 r h k)) = _
  congr 1; funext a; apply Fin.ext
  match a with
  | ⟨0, _⟩ => show win0_3.index t (0 : Fin 3) * 128 + 1 * r.val = t.val * 128 + r.val; omega
  | ⟨1, _⟩ => show win0_3.index t (1 : Fin 3) * 8 + 1 * h.val = h.val; omega
  | ⟨2, _⟩ => show win0_3.index t (2 : Fin 3) * 128 + 1 * k.val = k.val; omega

/-- An element of a block of the values, out of the array. -/
theorem blk0_4 (t : Fin cfg0.N) (r : Fin 128) (h : Fin 8) (k : Fin 128) : iblk0 V c 4 t (ix3 r h k) = V c main_v16 (ix3 (row0 t r) h k) := by
  obtain ⟨e0, e1, e2⟩ := idx0_4 t
  show V c main_v16 (((cfg0.win 4).blk t).view.emb (ix3 r h k)) = _
  congr 1; funext a; apply Fin.ext
  match a with
  | ⟨0, _⟩ => show win0_4.index t (0 : Fin 3) * 128 + 1 * r.val = t.val * 128 + r.val; omega
  | ⟨1, _⟩ => show win0_4.index t (1 : Fin 3) * 8 + 1 * h.val = h.val; omega
  | ⟨2, _⟩ => show win0_4.index t (2 : Fin 3) * 128 + 1 * k.val = k.val; omega

/-- Where an element of a block of the codes sits in the array. -/
theorem emb0_5 (t : Fin cfg0.N) (r : Fin 128) (y : Fin 7168) : ((cfg0.win 5).blk t).view.emb (ix2 r y) = ix2 (row0 t r) y := by
  obtain ⟨e0, e1⟩ := idx0_5 t
  funext a; apply Fin.ext
  match a with
  | ⟨0, _⟩ => show win0_5.index t (0 : Fin 2) * 128 + 1 * r.val = t.val * 128 + r.val; omega
  | ⟨1, _⟩ => show win0_5.index t (1 : Fin 2) * 7168 + 1 * y.val = y.val; omega

/-- Where an element of a block of the scales sits in the array. -/
theorem emb0_6 (t : Fin cfg0.N) (r : Fin 128) (y : Fin 56) : ((cfg0.win 6).blk t).view.emb (ix2 r y) = ix2 (row0 t r) y := by
  obtain ⟨e0, e1⟩ := idx0_6 t
  funext a; apply Fin.ext
  match a with
  | ⟨0, _⟩ => show win0_6.index t (0 : Fin 2) * 128 + 1 * r.val = t.val * 128 + r.val; omega
  | ⟨1, _⟩ => show win0_6.index t (1 : Fin 2) * 56 + 1 * y.val = y.val; omega

/-- Where an element of a block of the dequantised rows sits in the array. -/
theorem emb0_7 (t : Fin cfg0.N) (r : Fin 128) (y : Fin 7168) : ((cfg0.win 7).blk t).view.emb (ix2 r y) = ix2 (row0 t r) y := by
  obtain ⟨e0, e1⟩ := idx0_7 t
  funext a; apply Fin.ext
  match a with
  | ⟨0, _⟩ => show win0_7.index t (0 : Fin 2) * 128 + 1 * r.val = t.val * 128 + r.val; omega
  | ⟨1, _⟩ => show win0_7.index t (1 : Fin 2) * 7168 + 1 * y.val = y.val; omega

/-! ## The arrays -/

/-- Head `h` of row `r`, out of the arrays the call is given. -/
def headA (r : Fin 2048) (h : Fin 56) : Fin 128 → EReal :=
  Spec.head (fun k => FloatOps.sitofp (F := Ideal) .f32 (V c main_v13 (ix2 r 0)) * (V c main_v12 (ix2 0 k) : EReal))
    (fun h k => (V c main_v14 (ix3 r h k) : EReal)) (fun h k => (V c main_v15 (ix3 r h k) : EReal))
    (fun h k => (V c main_v16 (ix3 r h k) : EReal)) h

/-- A head of a block's row is the head of that row of the arrays. -/
theorem headB_eq (t : Fin cfg0.N) (r : Fin 128) (h : Fin 56) :
    headB (iblk0 V c 0 t) (iblk0 V c 1 t) (iblk0 V c 2 t) (iblk0 V c 3 t) (iblk0 V c 4 t) r h = headA V c (row0 t r) h := by
  unfold headB headA angB
  simp only [blk0_0, blk0_1, blk0_2, blk0_3, blk0_4]

/-- Lane `y` of row `r` of the codes. -/
def code5 (r : Fin 2048) (y : Fin 7168) : EReal := Spec.code (headA V c r (Spec.headOf y)) (Spec.laneOf y)
/-- Head `h` of row `r` of the scales. -/
def scale6 (r : Fin 2048) (h : Fin 56) : EReal := Spec.scale (headA V c r h)
/-- Lane `y` of row `r` of the dequantised array. -/
def deq7 (r : Fin 2048) (y : Fin 7168) : EReal := Spec.deq (headA V c r (Spec.headOf y)) (Spec.laneOf y)

/-- The codes' array. -/
def G5 : S2048x7168.Idx → EReal := fun y => code5 V c (y 0) (y 1)
/-- The scales' array. -/
def G6 : S2048x56.Idx → EReal := fun y => scale6 V c (y 0) (y 1)
/-- The dequantised array. -/
def G7 : S2048x7168.Idx → EReal := fun y => deq7 V c (y 0) (y 1)

/-- An element of the codes a block leaves. -/
theorem blkOut5 (t : Fin cfg0.N) (r : Fin 128) (y : Fin 7168) :
    out0_5 (iblk0 V c 0 t) (iblk0 V c 1 t) (iblk0 V c 2 t) (iblk0 V c 3 t) (iblk0 V c 4 t) (ix2 r y) = code5 V c (row0 t r) y :=
  (out5_apply _ _ _ _ _ (ix2 r y)).trans (by show Spec.code (headB _ _ _ _ _ r (Spec.headOf y)) (Spec.laneOf y) = _; rw [headB_eq]; rfl)

/-- The codes a block leaves, as a function. -/
theorem blkFn5 (t : Fin cfg0.N) :
    out0_5 (iblk0 V c 0 t) (iblk0 V c 1 t) (iblk0 V c 2 t) (iblk0 V c 3 t) (iblk0 V c 4 t) = fun y : S128x7168.Idx => code5 V c (row0 t (y 0)) (y 1) := by
  funext y
  idx_vars y
  exact blkOut5 V c t y0 y1

/-- That function is the block's part of the whole array of the codes. -/
theorem read5 (t : Fin cfg0.N) :
    (fun y : S128x7168.Idx => code5 V c (row0 t (y 0)) (y 1)) = ((cfg0.win 5).blk t).view.read (Elt Ideal) (G5 V c) := by
  funext y
  idx_vars y
  show code5 V c (row0 t y0) y1 = G5 V c (((cfg0.win 5).blk t).view.emb (ix2 y0 y1))
  rw [emb0_5]
  rfl

/-- So a point writes back its part of the codes. -/
theorem flushed5 (t : Fin cfg0.N) : (dat0 V c).flushed 5 t = ((cfg0.win 5).blk t).view.read (Elt Ideal) (G5 V c) := by
  show (cfg0.win 5).cut (grid0.coords t) ((dat0 V c).after 5 t) = _
  rw [after0_5, blkFn5, read5]

/-- The points' blocks cover the array of the codes. -/
theorem covered5 (i : S2048x7168.Idx) : ∃ t : Fin cfg0.N, (cfg0.win 5).flush t = true ∧ i ∈ ((cfg0.win 5).blk t).view.set := by
  idx_vars i
  have hi : i0.val < 2048 := i0.isLt
  have ht : i0.val / 128 < 16 := by omega
  refine ⟨(⟨i0.val / 128, ht⟩ : Fin cfg0.N), flush0_5 _, ?_⟩
  have h := ((cfg0.win 5).blk (⟨i0.val / 128, ht⟩ : Fin cfg0.N)).view.emb_mem_set (ix2 ⟨i0.val % 128, Nat.mod_lt _ (by decide)⟩ i1)
  rw [emb0_5] at h
  have e : row0 (⟨i0.val / 128, ht⟩ : Fin cfg0.N) ⟨i0.val % 128, Nat.mod_lt _ (by decide)⟩ = i0 :=
    Fin.ext (by show i0.val / 128 * 128 + i0.val % 128 = i0.val; omega)
  rw [e] at h
  exact h

/-- The array of the codes after the call. -/
theorem arr5 : (dat0 V c).arrAt 5 cfg0.N = G5 V c :=
  (dat0 V c).arrAt_eq_of_cover 5 (G5 V c) (fun t _ => flushed5 V c t) covered5

/-- An element of the scales a block leaves. -/
theorem blkOut6 (t : Fin cfg0.N) (r : Fin 128) (y : Fin 56) :
    out0_6 (iblk0 V c 0 t) (iblk0 V c 1 t) (iblk0 V c 2 t) (iblk0 V c 3 t) (iblk0 V c 4 t) (ix2 r y) = scale6 V c (row0 t r) y :=
  (out6_apply _ _ _ _ _ r y).trans (by rw [headB_eq]; rfl)

/-- The scales a block leaves, as a function. -/
theorem blkFn6 (t : Fin cfg0.N) :
    out0_6 (iblk0 V c 0 t) (iblk0 V c 1 t) (iblk0 V c 2 t) (iblk0 V c 3 t) (iblk0 V c 4 t) = fun y : S128x56.Idx => scale6 V c (row0 t (y 0)) (y 1) := by
  funext y
  idx_vars y
  exact blkOut6 V c t y0 y1

/-- That function is the block's part of the whole array of the scales. -/
theorem read6 (t : Fin cfg0.N) :
    (fun y : S128x56.Idx => scale6 V c (row0 t (y 0)) (y 1)) = ((cfg0.win 6).blk t).view.read (Elt Ideal) (G6 V c) := by
  funext y
  idx_vars y
  show scale6 V c (row0 t y0) y1 = G6 V c (((cfg0.win 6).blk t).view.emb (ix2 y0 y1))
  rw [emb0_6]
  rfl

/-- So a point writes back its part of the scales. -/
theorem flushed6 (t : Fin cfg0.N) : (dat0 V c).flushed 6 t = ((cfg0.win 6).blk t).view.read (Elt Ideal) (G6 V c) := by
  show (cfg0.win 6).cut (grid0.coords t) ((dat0 V c).after 6 t) = _
  rw [after0_6, blkFn6, read6]

/-- The points' blocks cover the array of the scales. -/
theorem covered6 (i : S2048x56.Idx) : ∃ t : Fin cfg0.N, (cfg0.win 6).flush t = true ∧ i ∈ ((cfg0.win 6).blk t).view.set := by
  idx_vars i
  have hi : i0.val < 2048 := i0.isLt
  have ht : i0.val / 128 < 16 := by omega
  refine ⟨(⟨i0.val / 128, ht⟩ : Fin cfg0.N), flush0_6 _, ?_⟩
  have h := ((cfg0.win 6).blk (⟨i0.val / 128, ht⟩ : Fin cfg0.N)).view.emb_mem_set (ix2 ⟨i0.val % 128, Nat.mod_lt _ (by decide)⟩ i1)
  rw [emb0_6] at h
  have e : row0 (⟨i0.val / 128, ht⟩ : Fin cfg0.N) ⟨i0.val % 128, Nat.mod_lt _ (by decide)⟩ = i0 :=
    Fin.ext (by show i0.val / 128 * 128 + i0.val % 128 = i0.val; omega)
  rw [e] at h
  exact h

/-- The array of the scales after the call. -/
theorem arr6 : (dat0 V c).arrAt 6 cfg0.N = G6 V c :=
  (dat0 V c).arrAt_eq_of_cover 6 (G6 V c) (fun t _ => flushed6 V c t) covered6

/-- An element of the dequantised rows a block leaves. -/
theorem blkOut7 (t : Fin cfg0.N) (r : Fin 128) (y : Fin 7168) :
    out0_7 (iblk0 V c 0 t) (iblk0 V c 1 t) (iblk0 V c 2 t) (iblk0 V c 3 t) (iblk0 V c 4 t) (ix2 r y) = deq7 V c (row0 t r) y :=
  (out7_apply _ _ _ _ _ (ix2 r y)).trans (by show Spec.deq (headB _ _ _ _ _ r (Spec.headOf y)) (Spec.laneOf y) = _; rw [headB_eq]; rfl)

/-- The dequantised rows a block leaves, as a function. -/
theorem blkFn7 (t : Fin cfg0.N) :
    out0_7 (iblk0 V c 0 t) (iblk0 V c 1 t) (iblk0 V c 2 t) (iblk0 V c 3 t) (iblk0 V c 4 t) = fun y : S128x7168.Idx => deq7 V c (row0 t (y 0)) (y 1) := by
  funext y
  idx_vars y
  exact blkOut7 V c t y0 y1

/-- That function is the block's part of the whole array of the dequantised rows. -/
theorem read7 (t : Fin cfg0.N) :
    (fun y : S128x7168.Idx => deq7 V c (row0 t (y 0)) (y 1)) = ((cfg0.win 7).blk t).view.read (Elt Ideal) (G7 V c) := by
  funext y
  idx_vars y
  show deq7 V c (row0 t y0) y1 = G7 V c (((cfg0.win 7).blk t).view.emb (ix2 y0 y1))
  rw [emb0_7]
  rfl

/-- So a point writes back its part of the dequantised rows. -/
theorem flushed7 (t : Fin cfg0.N) : (dat0 V c).flushed 7 t = ((cfg0.win 7).blk t).view.read (Elt Ideal) (G7 V c) := by
  show (cfg0.win 7).cut (grid0.coords t) ((dat0 V c).after 7 t) = _
  rw [after0_7, blkFn7, read7]

/-- The points' blocks cover the array of the dequantised rows. -/
theorem covered7 (i : S2048x7168.Idx) : ∃ t : Fin cfg0.N, (cfg0.win 7).flush t = true ∧ i ∈ ((cfg0.win 7).blk t).view.set := by
  idx_vars i
  have hi : i0.val < 2048 := i0.isLt
  have ht : i0.val / 128 < 16 := by omega
  refine ⟨(⟨i0.val / 128, ht⟩ : Fin cfg0.N), flush0_7 _, ?_⟩
  have h := ((cfg0.win 7).blk (⟨i0.val / 128, ht⟩ : Fin cfg0.N)).view.emb_mem_set (ix2 ⟨i0.val % 128, Nat.mod_lt _ (by decide)⟩ i1)
  rw [emb0_7] at h
  have e : row0 (⟨i0.val / 128, ht⟩ : Fin cfg0.N) ⟨i0.val % 128, Nat.mod_lt _ (by decide)⟩ = i0 :=
    Fin.ext (by show i0.val / 128 * 128 + i0.val % 128 = i0.val; omega)
  rw [e] at h
  exact h

/-- The array of the dequantised rows after the call. -/
theorem arr7 : (dat0 V c).arrAt 7 cfg0.N = G7 V c :=
  (dat0 V c).arrAt_eq_of_cover 7 (G7 V c) (fun t _ => flushed7 V c t) covered7

end Cert.KernelIdeal.Block
-- ==== Proof.MmBlock.lean ====
/-
  What one block of the multiplying call computes: the weights it keeps on the side, dequantised, and its three outputs at
  an index.
-/
module

public import proofs.«01_k».proof.Proof.Gen.KernelIdeal.Frame
public import proofs.«01_k».proof.Proof.Spec
public import Idealize.ShloMosaic.Lib.Pointwise
public import Idealize.ShloMosaic.Lib.Pipeline.Value

@[expose] public section

set_option maxRecDepth 16384

noncomputable section

namespace Cert.KernelIdeal.Mm

open Idealize.ShloMosaic Cert.KernelIdeal Cert.KernelIdeal.Gen Idealize.SL.Sem

/-- The grid's coordinate is below twenty. -/
theorem i_lt (i : grid1.Coords) : (i 0).val < 20 := (i 0).isLt

/-- The row of the scales' array an output channel of block `i` reads. -/
def scaleRow (i : grid1.Coords) (d : Fin 256) : Fin 40 := ⟨2 * (i 0).val + d.val / 128, by have := i_lt i; omega⟩

/-- The dequantised weights of block `i`: each code times its 128 by 128 tile's scale. -/
def wB (i : grid1.Coords) (x1 : Vec Ideal S256x7168 .fp8e4m3) (x2 : Vec Ideal S40x56 .f32) (y : S256x7168.Idx) : EReal :=
  (x1 y : EReal) * (x2 (ix2 (scaleRow i (y 0)) (Spec.headOf (y 1))) : EReal)

/-- The row number the body computes is the row number meant. -/
theorem row_toNat (i : grid1.Coords) (n : Nat) (hn : n < 2) :
    BitVec.toNat (Scalar.indexCast (Scalar.addi (Scalar.muli (BitVec.ofNat 32 (i 0).val) 2#32) (BitVec.ofNat 32 n)))
      = 2 * (i 0).val + n := by
  have := i_lt i
  simp only [Scalar.indexCast, Scalar.addi, Scalar.muli, IntOp.addi, IntOp.muli, BitVec.toNat_add, BitVec.toNat_mul, BitVec.toNat_ofNat]
  omega

section
variable (c : Dev nD) (i : grid1.Coords) (arg2 : Memref sig .tc .vmem S256x7168 .fp8e4m3) (harg2 : arg2.IsWhole)
  (arg3 : Memref sig .tc .smem S40x56 .f32) (harg3 : arg3.IsWhole)
  (x1 : Vec Ideal S256x7168 .fp8e4m3) (x2 : Vec Ideal S40x56 .f32)

/-- One tile of the dequantised weights: what is stored at a tile is the tile of `wB`. -/
theorem w_tile (off : Fin 2 → Nat) (inb) (off3 : Fin 2 → Nat) (inb3) (hf)
    (h0 : off 0 % 128 = 0) (h1 : off 1 % 128 = 0)
    (h3 : off3 = ![BitVec.toNat (Scalar.indexCast (Scalar.addi (Scalar.muli (BitVec.ofNat 32 (i 0).val) 2#32)
      (BitVec.ofNat 32 (off 0 / 128)))), off 1 / 128])
    (x : S128x128.Idx) :
    k1_pay4 (View.readAt (Elt Ideal) arg3.view (Rect.unit (s := S40x56) off3 S1x1.size inb3).toLoadRect (harg3.unread x2)
        (Shape.Idx.first hf))
      (View.readAt (Elt Ideal) arg2.view (Rect.unit (s := S256x7168) off S128x128.size inb).toLoadRect (harg2.unread x1)) x
    = wB i x1 x2 ((Rect.unit (s := S256x7168) off S128x128.size inb).emb x) := by
  idx_vars x
  have b0 : off 0 + 128 ≤ 256 := inb 0
  have b1 : off 1 + 128 ≤ 7168 := inb 1
  have hr := row_toNat i (off 0 / 128) (by omega)
  rw [hr] at h3
  subst h3
  simp only [View.readAt_eq_ld, harg2.read_unread, harg3.read_unread]
  pointwise [k1_pay4]
  have hy : (Rect.unit (s := S256x7168) off ![128, 128] inb).emb (ix2 x0 x1)
      = ix2 (⟨off 0 + x0.val, by omega⟩ : Fin 256) (⟨off 1 + x1.val, by omega⟩ : Fin 7168) := by
    funext a; apply Fin.ext; fin_cases a <;> simp [Rect.emb, Rect.unit, ix2]
  rw [hy]
  show _ = _ * x2 (ix2 (scaleRow i _) (Spec.headOf _))
  congr 3
  · apply Fin.ext; simp only [scaleRow, ix2]; show _ = _ + (off 0 + x0.val) / 128; omega
  · apply Fin.ext; simp only [Spec.headOf, ix2]; show _ = (off 1 + x1.val) / 128; omega

attribute [local irreducible] shapeCast extf truncf mulf broadcast

/-- The side buffer the products read holds the dequantised weights. -/
theorem w_apply (arg8 : Memref sig .tc .vmem S256x7168 .bf16) :
    kernelRun1_A.sl.v1346 c i arg2 harg2 arg3 harg3 arg8 x1 x2 = wB i x1 x2 := by
  unfold kernelRun1_A.sl.v1346
  refine (View.readCov_eq_canon_ld (Val := Elt Ideal) arg8.view _ _
    fun y => View.cover_of_tiledL (s := S256x7168) (kernelRun1_A.sl.HS0_112 (F := Ideal) c i arg2 harg2 arg3 harg3 x1 x2) S128x128.size (by sl_kernel_rfl) y).trans ?_
  refine (View.ld_unit_zero (S := S256x7168) (by decide) _ _).trans ?_
  funext y
  refine View.canon_apply_of_pieces (Val := Elt Ideal) (wB i x1 x2) _ ?_ y
    (View.cover_of_tiledL (s := S256x7168) (kernelRun1_A.sl.HS0_112 (F := Ideal) c i arg2 harg2 arg3 harg3 x1 x2) S128x128.size (by sl_kernel_rfl) y)
  iterate 112 refine List.forall_mem_cons.2 ⟨fun x => w_tile i arg2 harg2 arg3 harg3 x1 x2 _ (by decide) _ _ _ (by decide) (by decide) (by rfl) x, ?_⟩
  exact List.forall_mem_nil _

end
end Cert.KernelIdeal.Mm
-- ==== Proof.MmOut.lean ====
/-
  The three outputs of one block of the multiplying call, at an index: the product plus the residual, its codes and its
  scales, each group of 128 channels quantised by itself.
-/
module

public import proofs.«01_k».proof.Proof.MmBlock

@[expose] public section

set_option maxRecDepth 16384

noncomputable section

namespace Cert.KernelIdeal.Mm

open Idealize.ShloMosaic Cert.KernelIdeal Cert.KernelIdeal.Gen Idealize.SL.Sem

/-- The named constant of the quantiser denotes the natural logarithm of two. -/
theorem ln2_eq : Named.named (F := Ideal) Cert.KernelIdeal.κ "ln2" (φ := .f32) 0x3F317218#32 = ((Real.log 2 : ℝ) : EReal) :=
  IdealRules.named_const.ideal_named_scalar _ _ _ _ rfl

/-! ## The body's vector functions -/

/-- The largest magnitudes of a tile of groups, as a column. -/
def amaxM (g : FVec Ideal S512x128 .f32) : FVec Ideal S512x1 .f32 :=
  shapeCast S512x1 (multiReduction .maximumf [1] S512 (absf g) 0xFF800000#32 reduces_S512x128_S512 (.inl rfl) rfl) shapeCasts_S512_S512x1

/-- A tile's codes. -/
def codeM (g : FVec Ideal S512x128 .f32) : FVec Ideal S512x128 .fp8e5m2 :=
  k1_pay2 g (amaxM g) (Scalar.ofBits .f32 0x37924925#32)

/-- A tile's scales. -/
def sclM (g : FVec Ideal S512x128 .f32) : FVec Ideal S1x512x1 .f32 :=
  k1_pay3 (amaxM g) (Scalar.ofBits .f32 0x37924925#32)

/-- The exponent column of 512 rows is each row's exponent, less one. -/
theorem fieldM_apply (g : FVec Ideal S512x128 .f32) (r : Fin 512) (z : Fin 1) :
    k1_pay1 (amaxM g) (Ideal.ofBits .f32 0x37924925#32) (ix2 r z) = Spec.field fun k => g (ix2 r k) := by
  pointwise [k1_pay1, amaxM, ln2_eq]
  rfl

/-- The codes of 512 rows are each row's codes. -/
theorem codeM_apply (g : FVec Ideal S512x128 .f32) (r : Fin 512) (k : Fin 128) :
    codeM g (ix2 r k) = Spec.code (fun k => g (ix2 r k)) k := by
  pointwise [codeM, k1_pay2, fieldM_apply]
  rfl

/-- The scales of 512 rows are each row's scale. -/
theorem sclM_apply (g : FVec Ideal S512x128 .f32) (z : Fin 1) (r : Fin 512) (z' : Fin 1) :
    sclM g (ix3 z r z') = Spec.scale (fun k => g (ix2 r k)) := by
  pointwise [sclM, k1_pay3, fieldM_apply]
  rfl

/-- The product of a row of the first operand with a row of the second, plus the residual. -/
def vB (w : S256x7168.Idx → EReal) (x0 : Vec Ideal S2048x7168 .bf16) (x3 : Vec Ideal S2048x256 .bf16) (r : Fin 2048) (d : Fin 256) : EReal :=
  (∑ k : Fin 7168, (x0 (ix2 r k) : EReal) * w (ix2 d k)) + x3 (ix2 r d)

/-- The product of 512 rows with a block's weights, the residual added. -/
theorem pay155_apply (a : Vec Ideal S512x7168 .bf16) (w : Vec Ideal S256x7168 .bf16) (b : Vec Ideal S512x256 .bf16) (r : Fin 512) (d : Fin 256) :
    k1_pay155 a w b (ix2 r d) = (∑ k : Fin 7168, (a (ix2 r k) : EReal) * w (ix2 d k)) + b (ix2 r d) := by
  pointwise [k1_pay155]

/-- The output at a row and a channel as a function of the block's inputs. -/
def vOut (i : grid1.Coords) (x0 : Vec Ideal S2048x7168 .bf16) (x1 : Vec Ideal S256x7168 .fp8e4m3) (x2 : Vec Ideal S40x56 .f32)
    (x3 : Vec Ideal S2048x256 .bf16) : Fin 2048 → Fin 256 → EReal := vB (wB i x1 x2) x0 x3

/-- The group of 128 channels number `h` of a row. -/
def grp (V : Fin 2048 → Fin 256 → EReal) (r : Fin 2048) (h : Fin 2) (k : Fin 128) : EReal := V r ⟨128 * h.val + k.val, by omega⟩

/-- What the first output holds at an index. -/
def g4 (V : Fin 2048 → Fin 256 → EReal) (y : S2048x256.Idx) : EReal := V (y 0) (y 1)
/-- What the codes hold at an index. -/
def g5 (V : Fin 2048 → Fin 256 → EReal) (y : S2048x256.Idx) : EReal :=
  Spec.code (grp V (y 0) ⟨(y 1).val / 128, by have : (y 1).val < 256 := (y 1).isLt; omega⟩) ⟨(y 1).val % 128, Nat.mod_lt _ (by decide)⟩
/-- What the scales hold at an index. -/
def g6 (V : Fin 2048 → Fin 256 → EReal) (y : S1x2048x2.Idx) : EReal := Spec.scale (grp V (y 1) (y 2))

section
variable (c : Dev nD) (i : grid1.Coords) (arg1 : Memref sig .tc .vmem S2048x7168 .bf16) (harg1 : arg1.IsWhole)
  (arg2 : Memref sig .tc .vmem S256x7168 .fp8e4m3) (harg2 : arg2.IsWhole)
  (arg3 : Memref sig .tc .smem S40x56 .f32) (harg3 : arg3.IsWhole)
  (arg4 : Memref sig .tc .vmem S2048x256 .bf16) (harg4 : arg4.IsWhole)
  (arg5 : Memref sig .tc .vmem S2048x256 .bf16) (harg5 : arg5.IsWhole)
  (arg6 : Memref sig .tc .vmem S2048x256 .fp8e5m2) (harg6 : arg6.IsWhole)
  (arg7 : Memref sig .tc .vmem S1x2048x2 .f32) (harg7 : arg7.IsWhole)
  (arg8 : Memref sig .tc .vmem S256x7168 .bf16) (harg8 : arg8.IsWhole)
  (x0 : Vec Ideal S2048x7168 .bf16) (x1 : Vec Ideal S256x7168 .fp8e4m3) (x2 : Vec Ideal S40x56 .f32) (x3 : Vec Ideal S2048x256 .bf16)

/-- The product plus residual of the 512 rows from row `o` on. -/
def accT (o : Nat) (ia : ∀ a : Fin 2, ![o, 0] a + S512x7168.size a ≤ S2048x7168.size a)
    (ib : ∀ a : Fin 2, ![o, 0] a + S512x256.size a ≤ S2048x256.size a) : FVec Ideal S512x256 .f32 :=
  k1_pay155 (View.readAt (Elt Ideal) arg1.view (Rect.unit (s := S2048x7168) ![o, 0] S512x7168.size ia).toLoadRect (harg1.unread x0))
    (kernelRun1_A.sl.v1346 c i arg2 harg2 arg3 harg3 arg8 x1 x2)
    (View.readAt (Elt Ideal) arg4.view (Rect.unit (s := S2048x256) ![o, 0] S512x256.size ib).toLoadRect (harg4.unread x3))

/-- So 512 rows from row `o` on of a block hold the block's product there. -/
theorem accT_apply (o : Nat) (ia) (ib) (r : Fin 512) (d : Fin 256) :
    accT c i arg1 harg1 arg2 harg2 arg3 harg3 arg4 harg4 arg8 x0 x1 x2 x3 o ia ib (ix2 r d)
      = vOut i x0 x1 x2 x3 ⟨o + r.val, by have : o + 512 ≤ 2048 := ia 0; omega⟩ d := by
  unfold accT
  rw [pay155_apply, w_apply]
  simp only [View.readAt_eq_ld, harg1.read_unread, harg4.read_unread]
  pointwise
  rfl

/-- Half `h` of the channels of the 512 rows from row `o` on. -/
def halfT (o : Nat) (ia : ∀ a : Fin 2, ![o, 0] a + S512x7168.size a ≤ S2048x7168.size a)
    (ib : ∀ a : Fin 2, ![o, 0] a + S512x256.size a ≤ S2048x256.size a)
    (h : Nat) (hs : S512x256.Slices ![0, 128 * h] S512x128) : FVec Ideal S512x128 .f32 :=
  extractStridedSlice S512x128 ![0, 128 * h] (accT c i arg1 harg1 arg2 harg2 arg3 harg3 arg4 harg4 arg8 x0 x1 x2 x3 o ia ib) hs

/-- A half of their columns is one group of it. -/
theorem halfT_apply (o : Nat) (ia) (ib) (h : Nat) (hh : h < 2) (hs) (r : Fin 512) :
    (fun k => halfT c i arg1 harg1 arg2 harg2 arg3 harg3 arg4 harg4 arg8 x0 x1 x2 x3 o ia ib h hs (ix2 r k))
      = grp (vOut i x0 x1 x2 x3) ⟨o + r.val, by have : o + 512 ≤ 2048 := ia 0; omega⟩ ⟨h, hh⟩ := by
  funext k
  pointwise [halfT, accT_apply]
  rfl

/-- A store of the first output is the tile of `g4` it names. -/
theorem tile4 (o : Nat) (ia) (ib) (inb) (y : S512x256.Idx) :
    truncf .bf16 (accT c i arg1 harg1 arg2 harg2 arg3 harg3 arg4 harg4 arg8 x0 x1 x2 x3 o ia ib) bitsLt_bf16_f32 y
      = g4 (vOut i x0 x1 x2 x3) ((Rect.unit (s := S2048x256) ![o, 0] S512x256.size inb).emb y) := by
  idx_vars y
  pointwise [accT_apply]
  show _ = vOut i x0 x1 x2 x3 _ _
  congr 1 <;> apply Fin.ext <;> simp [Rect.emb, Rect.unit, ix2]

/-- A store of the codes is the tile of `g5` it names. -/
theorem tile5 (h : Nat) (hh : h < 2) (hs) (o : Nat) (ia) (ib) (off : Fin 2 → Nat) (inb) (ho : off = ![o, 128 * h]) (y : S512x128.Idx) :
    codeM (halfT c i arg1 harg1 arg2 harg2 arg3 harg3 arg4 harg4 arg8 x0 x1 x2 x3 o ia ib h hs) y
      = g5 (vOut i x0 x1 x2 x3) ((Rect.unit (s := S2048x256) off S512x128.size inb).emb y) := by
  subst ho
  idx_vars y
  have b0 : o + 512 ≤ 2048 := ia 0
  rw [codeM_apply, halfT_apply _ _ _ _ _ _ _ _ _ _ _ _ _ _ _ _ _ _ h hh]
  have hy : (Rect.unit (s := S2048x256) ![o, 128 * h] S512x128.size inb).emb (ix2 y0 y1)
      = ix2 (⟨o + y0.val, by omega⟩ : Fin 2048) (⟨128 * h + y1.val, by omega⟩ : Fin 256) := by
    funext a; apply Fin.ext; fin_cases a <;> simp [Rect.emb, Rect.unit, ix2]
  rw [hy]
  show _ = Spec.code (grp _ _ _) _
  congr 1
  · congr 1; apply Fin.ext; show h = (128 * h + y1.val) / 128; omega
  · apply Fin.ext; show y1.val = (128 * h + y1.val) % 128; omega

/-- A store of the scales is the column of `g6` it names. -/
theorem tile6 (h : Nat) (hh : h < 2) (hs) (o : Nat) (ia) (ib) (off : Fin 3 → Nat) (inb) (ho : off = ![0, o, h]) (y : S1x512x1.Idx) :
    sclM (halfT c i arg1 harg1 arg2 harg2 arg3 harg3 arg4 harg4 arg8 x0 x1 x2 x3 o ia ib h hs) y
      = g6 (vOut i x0 x1 x2 x3) ((Rect.unit (s := S1x2048x2) off S1x512x1.size inb).emb y) := by
  subst ho
  idx_vars y
  have b0 : o + 512 ≤ 2048 := ia 0
  rw [sclM_apply, halfT_apply _ _ _ _ _ _ _ _ _ _ _ _ _ _ _ _ _ _ h hh]
  have hy : (Rect.unit (s := S1x2048x2) ![0, o, h] S1x512x1.size inb).emb (ix3 y0 y1 y2)
      = ix3 (0 : Fin 1) (⟨o + y1.val, by omega⟩ : Fin 2048) (⟨h, hh⟩ : Fin 2) := by
    funext a; apply Fin.ext; fin_cases a <;> simp [Rect.emb, Rect.unit, ix3]
  rw [hy]
  rfl

attribute [local irreducible] multiReduction shapeCast broadcastTo select extf truncf cmpf extractStridedSlice
  mulf addf subf maximumf minimumf exp2 log floor divf absf broadcast

/-- The first output of a block. -/
theorem out4_apply : out1_A_4 c i arg1 harg1 arg2 harg2 arg3 harg3 arg4 harg4 arg5 harg5 arg6 harg6 arg7 harg7 arg8 harg8 x0 x1 x2 x3 = g4 (vOut i x0 x1 x2 x3) := by
  unfold out1_A_4
  rw [View.read_writes_eq_canon _ _ _ (cover1_A_4 c i arg1 harg1 arg2 harg2 arg3 harg3 arg4 harg4 arg5 harg5 arg6 harg6 arg7 harg7 arg8 harg8 x0 x1 x2 x3)]
  funext y
  refine View.canon_apply_of_pieces (Val := Elt Ideal) (g4 (vOut i x0 x1 x2 x3)) _ ?_ y (cover1_A_4 c i arg1 harg1 arg2 harg2 arg3 harg3 arg4 harg4 arg5 harg5 arg6 harg6 arg7 harg7 arg8 harg8 x0 x1 x2 x3 y)
  unfold kernelRun1_A
  dsimp only
  iterate 4 refine List.forall_mem_cons.2 ⟨fun x => tile4 c i arg1 harg1 arg2 harg2 arg3 harg3 arg4 harg4 arg8 x0 x1 x2 x3 _ (by decide) (by decide) (by decide) x, ?_⟩
  exact List.forall_mem_nil _

/-- The codes of a block. -/
theorem out5_apply : out1_A_5 c i arg1 harg1 arg2 harg2 arg3 harg3 arg4 harg4 arg5 harg5 arg6 harg6 arg7 harg7 arg8 harg8 x0 x1 x2 x3 = g5 (vOut i x0 x1 x2 x3) := by
  unfold out1_A_5
  rw [View.read_writes_eq_canon _ _ _ (cover1_A_5 c i arg1 harg1 arg2 harg2 arg3 harg3 arg4 harg4 arg5 harg5 arg6 harg6 arg7 harg7 arg8 harg8 x0 x1 x2 x3)]
  funext y
  refine View.canon_apply_of_pieces (Val := Elt Ideal) (g5 (vOut i x0 x1 x2 x3)) _ ?_ y (cover1_A_5 c i arg1 harg1 arg2 harg2 arg3 harg3 arg4 harg4 arg5 harg5 arg6 harg6 arg7 harg7 arg8 harg8 x0 x1 x2 x3 y)
  unfold kernelRun1_A
  dsimp only
  iterate 4
    refine List.forall_mem_cons.2 ⟨fun x => tile5 c i arg1 harg1 arg2 harg2 arg3 harg3 arg4 harg4 arg8 x0 x1 x2 x3 1 (by decide) slices_S512x256_o0_128_S512x128 _ (by decide) (by decide) _ (by decide) (by rfl) x, ?_⟩
    refine List.forall_mem_cons.2 ⟨fun x => tile5 c i arg1 harg1 arg2 harg2 arg3 harg3 arg4 harg4 arg8 x0 x1 x2 x3 0 (by decide) slices_S512x256_o0_0_S512x128 _ (by decide) (by decide) _ (by decide) (by rfl) x, ?_⟩
  exact List.forall_mem_nil _

/-- The scales of a block. -/
theorem out6_apply : out1_A_6 c i arg1 harg1 arg2 harg2 arg3 harg3 arg4 harg4 arg5 harg5 arg6 harg6 arg7 harg7 arg8 harg8 x0 x1 x2 x3 = g6 (vOut i x0 x1 x2 x3) := by
  unfold out1_A_6
  rw [View.read_writes_eq_canon _ _ _ (cover1_A_6 c i arg1 harg1 arg2 harg2 arg3 harg3 arg4 harg4 arg5 harg5 arg6 harg6 arg7 harg7 arg8 harg8 x0 x1 x2 x3)]
  funext y
  refine View.canon_apply_of_pieces (Val := Elt Ideal) (g6 (vOut i x0 x1 x2 x3)) _ ?_ y (cover1_A_6 c i arg1 harg1 arg2 harg2 arg3 harg3 arg4 harg4 arg5 harg5 arg6 harg6 arg7 harg7 arg8 harg8 x0 x1 x2 x3 y)
  unfold kernelRun1_A
  dsimp only
  iterate 4
    refine List.forall_mem_cons.2 ⟨fun x => tile6 c i arg1 harg1 arg2 harg2 arg3 harg3 arg4 harg4 arg8 x0 x1 x2 x3 1 (by decide) slices_S512x256_o0_128_S512x128 _ (by decide) (by decide) _ (by decide) (by rfl) x, ?_⟩
    refine List.forall_mem_cons.2 ⟨fun x => tile6 c i arg1 harg1 arg2 harg2 arg3 harg3 arg4 harg4 arg8 x0 x1 x2 x3 0 (by decide) slices_S512x256_o0_0_S512x128 _ (by decide) (by decide) _ (by decide) (by rfl) x, ?_⟩
  exact List.forall_mem_nil _

end

end Cert.KernelIdeal.Mm
-- ==== Proof.MmArr.lean ====
/-
  The three arrays the matrix call leaves, each as one function of the arrays it is called with.
-/
module

public import proofs.«01_k».proof.Proof.MmOut

@[expose] public section

set_option maxRecDepth 16384

noncomputable section

namespace Cert.KernelIdeal.Mm

open Idealize.ShloMosaic Idealize.ShloMosaic.TcCoe Cert.KernelIdeal Cert.KernelIdeal.Gen Idealize.SL.Sem

/-! ## Where a block's element sits in its array -/

/-- The grid's one coordinate at a point is the point's number. -/
theorem coord1 : ∀ t : Fin cfg1.N, (grid1.coords t (0 : Fin 1)).val = t.val := (by decide +kernel : ∀ t : Fin grid1.N, _)
/-- The block of the rows at each point. -/
theorem idx1_0 : ∀ t : Fin cfg1.N, win1_0.index t (0 : Fin 2) = 0 ∧ win1_0.index t (1 : Fin 2) = 0 := (by decide +kernel : ∀ t : Fin grid1.N, _)
/-- The block of the weights at each point. -/
theorem idx1_1 : ∀ t : Fin cfg1.N, win1_1.index t (0 : Fin 2) = t.val ∧ win1_1.index t (1 : Fin 2) = 0 := (by decide +kernel : ∀ t : Fin grid1.N, _)
/-- The block of the weights' scales at each point. -/
theorem idx1_2 : ∀ t : Fin cfg1.N, win1_2.index t (0 : Fin 2) = 0 ∧ win1_2.index t (1 : Fin 2) = 0 := (by decide +kernel : ∀ t : Fin grid1.N, _)
/-- The block of the residual at each point. -/
theorem idx1_3 : ∀ t : Fin cfg1.N, win1_3.index t (0 : Fin 2) = 0 ∧ win1_3.index t (1 : Fin 2) = t.val := (by decide +kernel : ∀ t : Fin grid1.N, _)
/-- The block of the product at each point. -/
theorem idx1_4 : ∀ t : Fin cfg1.N, win1_4.index t (0 : Fin 2) = 0 ∧ win1_4.index t (1 : Fin 2) = t.val := (by decide +kernel : ∀ t : Fin grid1.N, _)
/-- The block of the codes at each point. -/
theorem idx1_5 : ∀ t : Fin cfg1.N, win1_5.index t (0 : Fin 2) = 0 ∧ win1_5.index t (1 : Fin 2) = t.val := (by decide +kernel : ∀ t : Fin grid1.N, _)
/-- The block of the scales at each point. -/
theorem idx1_6 : ∀ t : Fin cfg1.N, win1_6.index t (0 : Fin 3) = t.val ∧ win1_6.index t (1 : Fin 3) = 0 ∧ win1_6.index t (2 : Fin 3) = 0 := (by decide +kernel : ∀ t : Fin grid1.N, _)

/-- There are twenty points. -/
theorem t1_lt (t : Fin cfg1.N) : t.val < 20 := t.isLt

/-- Column `d` of block `t`. -/
def col1 (t : Fin cfg1.N) (d : Fin 256) : Fin 5120 := ⟨t.val * 256 + d.val, by have := t1_lt t; omega⟩
/-- Block `t` among the twenty. -/
def blk1 (t : Fin cfg1.N) : Fin 20 := ⟨t.val, t1_lt t⟩
/-- The group of 128 columns a column is in. -/
def groupOf (d : Fin 5120) : Fin 40 := ⟨d.val / 128, by omega⟩
/-- The lane within its group of a column. -/
def laneIn (d : Fin 5120) : Fin 128 := ⟨d.val % 128, by omega⟩
/-- Half `h` of block `j` among the forty groups. -/
def groupAt (j : Fin 20) (h : Fin 2) : Fin 40 := ⟨2 * j.val + h.val, by omega⟩

variable (V : (c : Dev nD) → (b : Ref sig .tc) → Buf (Elt Ideal) ((c : Thread nD τ).loc b)) (c : Dev nD)

/-- An element of a block of the rows, out of the array. -/
theorem blk1_0 (t : Fin cfg1.N) (r : Fin 2048) (k : Fin 7168) : iblk1 V c 0 t (ix2 r k) = V c main_v17_2 (ix2 r k) := by
  obtain ⟨e0, e1⟩ := idx1_0 t
  show V c main_v17_2 (((cfg1.win 0).blk t).view.emb (ix2 r k)) = _
  congr 1; funext a; apply Fin.ext
  match a with
  | ⟨0, _⟩ => show win1_0.index t (0 : Fin 2) * 2048 + 1 * r.val = r.val; omega
  | ⟨1, _⟩ => show win1_0.index t (1 : Fin 2) * 7168 + 1 * k.val = k.val; omega

/-- An element of a block of the weights, out of the array. -/
theorem blk1_1 (t : Fin cfg1.N) (d : Fin 256) (k : Fin 7168) : iblk1 V c 1 t (ix2 d k) = V c main_arg5 (ix2 (col1 t d) k) := by
  obtain ⟨e0, e1⟩ := idx1_1 t
  show V c main_arg5 (((cfg1.win 1).blk t).view.emb (ix2 d k)) = _
  congr 1; funext a; apply Fin.ext
  match a with
  | ⟨0, _⟩ => show win1_1.index t (0 : Fin 2) * 256 + 1 * d.val = t.val * 256 + d.val; omega
  | ⟨1, _⟩ => show win1_1.index t (1 : Fin 2) * 7168 + 1 * k.val = k.val; omega

/-- An element of a block of the weights' scales, out of the array. -/
theorem blk1_2 (t : Fin cfg1.N) (g : Fin 40) (h : Fin 56) : iblk1 V c 2 t (ix2 g h) = V c main_arg6 (ix2 g h) := by
  obtain ⟨e0, e1⟩ := idx1_2 t
  show V c main_arg6 (((cfg1.win 2).blk t).view.emb (ix2 g h)) = _
  congr 1; funext a; apply Fin.ext
  match a with
  | ⟨0, _⟩ => show win1_2.index t (0 : Fin 2) * 40 + 1 * g.val = g.val; omega
  | ⟨1, _⟩ => show win1_2.index t (1 : Fin 2) * 56 + 1 * h.val = h.val; omega

/-- An element of a block of the residual, out of the array. -/
theorem blk1_3 (t : Fin cfg1.N) (r : Fin 2048) (d : Fin 256) : iblk1 V c 3 t (ix2 r d) = V c main_v18 (ix2 r (col1 t d)) := by
  obtain ⟨e0, e1⟩ := idx1_3 t
  show V c main_v18 (((cfg1.win 3).blk t).view.emb (ix2 r d)) = _
  congr 1; funext a; apply Fin.ext
  match a with
  | ⟨0, _⟩ => show win1_3.index t (0 : Fin 2) * 2048 + 1 * r.val = r.val; omega
  | ⟨1, _⟩ => show win1_3.index t (1 : Fin 2) * 256 + 1 * d.val = t.val * 256 + d.val; omega

/-- Where an element of a block of the product sits in the array. -/
theorem emb1_4 (t : Fin cfg1.N) (r : Fin 2048) (d : Fin 256) : ((cfg1.win 4).blk t).view.emb (ix2 r d) = ix2 r (col1 t d) := by
  obtain ⟨e0, e1⟩ := idx1_4 t
  funext a; apply Fin.ext
  match a with
  | ⟨0, _⟩ => show win1_4.index t (0 : Fin 2) * 2048 + 1 * r.val = r.val; omega
  | ⟨1, _⟩ => show win1_4.index t (1 : Fin 2) * 256 + 1 * d.val = t.val * 256 + d.val; omega

/-- Where an element of a block of the codes sits in the array. -/
theorem emb1_5 (t : Fin cfg1.N) (r : Fin 2048) (d : Fin 256) : ((cfg1.win 5).blk t).view.emb (ix2 r d) = ix2 r (col1 t d) := by
  obtain ⟨e0, e1⟩ := idx1_5 t
  funext a; apply Fin.ext
  match a with
  | ⟨0, _⟩ => show win1_5.index t (0 : Fin 2) * 2048 + 1 * r.val = r.val; omega
  | ⟨1, _⟩ => show win1_5.index t (1 : Fin 2) * 256 + 1 * d.val = t.val * 256 + d.val; omega

/-- Where an element of a block of the scales sits in the array. -/
theorem emb1_6 (t : Fin cfg1.N) (z : Fin 1) (r : Fin 2048) (h : Fin 2) : ((cfg1.win 6).blk t).view.emb (ix3 z r h) = ix3 (blk1 t) r h := by
  obtain ⟨e0, e1, e2⟩ := idx1_6 t
  funext a; apply Fin.ext
  match a with
  | ⟨0, _⟩ => show win1_6.index t (0 : Fin 3) * 1 + 1 * z.val = t.val; omega
  | ⟨1, _⟩ => show win1_6.index t (1 : Fin 3) * 2048 + 1 * r.val = r.val; omega
  | ⟨2, _⟩ => show win1_6.index t (2 : Fin 3) * 2 + 1 * h.val = h.val; omega

/-! ## The arrays -/

/-- The product at row `r` and column `d` of the rows `X` with the dequantised weights, the running sum `B` added. -/
def dxOf (X : S2048x7168.Idx → EReal) (W : S5120x7168.Idx → EReal) (S : S40x56.Idx → EReal) (B : S2048x5120.Idx → EReal)
    (r : Fin 2048) (d : Fin 5120) : EReal :=
  (∑ k : Fin 7168, X (ix2 r k) * (W (ix2 d k) * S (ix2 (groupOf d) (Spec.headOf k)))) + B (ix2 r d)

/-- That product of the arrays the call is given. -/
def dxA (r : Fin 2048) (d : Fin 5120) : EReal := dxOf (V c main_v17_2) (V c main_arg5) (V c main_arg6) (V c main_v18) r d

/-- A dequantised weight of a block: the code times its tile's scale. -/
theorem wB_apply (i : grid1.Coords) (x1 : Vec Ideal S256x7168 .fp8e4m3) (x2 : Vec Ideal S40x56 .f32) (d : Fin 256) (k : Fin 7168) :
    wB i x1 x2 (ix2 d k) = (x1 (ix2 d k) : EReal) * (x2 (ix2 (scaleRow i d) (Spec.headOf k)) : EReal) := rfl

/-- Group `h` of row `r` of it. -/
def groupA (r : Fin 2048) (h : Fin 40) (k : Fin 128) : EReal := dxA V c r ⟨128 * h.val + k.val, by omega⟩

/-- A block's product is the arrays' product at the block's columns. -/
theorem vOut_eq (t : Fin cfg1.N) (r : Fin 2048) (d : Fin 256) :
    vOut (grid1.coords t) (iblk1 V c 0 t) (iblk1 V c 1 t) (iblk1 V c 2 t) (iblk1 V c 3 t) r d = dxA V c r (col1 t d) := by
  have hs : scaleRow (grid1.coords t) d = groupOf (col1 t d) := Fin.ext (by
    show 2 * (grid1.coords t (0 : Fin 1)).val + d.val / 128 = (t.val * 256 + d.val) / 128
    rw [coord1]; omega)
  unfold vOut vB dxA dxOf
  rw [blk1_3]
  refine congrArg (· + _) (Finset.sum_congr rfl fun k _ => ?_)
  rw [blk1_0, wB_apply, blk1_1, blk1_2, hs]

/-- A half of a block is one group of the arrays' product. -/
theorem grp_eq (t : Fin cfg1.N) (r : Fin 2048) (h : Fin 2) :
    grp (vOut (grid1.coords t) (iblk1 V c 0 t) (iblk1 V c 1 t) (iblk1 V c 2 t) (iblk1 V c 3 t)) r h = groupA V c r (groupAt (blk1 t) h) := by
  funext k
  unfold grp groupA
  rw [vOut_eq]
  refine congrArg (dxA V c r) (Fin.ext ?_)
  show t.val * 256 + (128 * h.val + k.val) = 128 * (2 * t.val + h.val) + k.val
  omega

/-- Column `d` of row `r` of the codes. -/
def codeA (r : Fin 2048) (d : Fin 5120) : EReal := Spec.code (groupA V c r (groupOf d)) (laneIn d)
/-- The scale of half `h` of block `j` at row `r`. -/
def scaleA (j : Fin 20) (r : Fin 2048) (h : Fin 2) : EReal := Spec.scale (groupA V c r (groupAt j h))

/-- The product's array. -/
def G4 : S2048x5120.Idx → EReal := fun y => dxA V c (y 0) (y 1)
/-- The codes' array. -/
def G5 : S2048x5120.Idx → EReal := fun y => codeA V c (y 0) (y 1)
/-- The scales' array. -/
def G6 : S20x2048x2.Idx → EReal := fun y => scaleA V c (y 0) (y 1) (y 2)

/-- An element of the product a block leaves. -/
theorem blkOut4 (t : Fin cfg1.N) (r : Fin 2048) (d : Fin 256) : g4 (vOut (grid1.coords t) (iblk1 V c 0 t) (iblk1 V c 1 t) (iblk1 V c 2 t) (iblk1 V c 3 t)) (ix2 r d) = dxA V c r (col1 t d) := by
  exact vOut_eq V c t r d

/-- The product a block leaves, as a function. -/
theorem blkFn4 (t : Fin cfg1.N) :
    (outsAt1 V c t).1 = fun y : S2048x256.Idx => dxA V c (y 0) (col1 t (y 1)) := by
  unfold outsAt1
  dsimp only
  rw [out4_apply]
  funext y
  idx_vars y
  exact blkOut4 V c t y0 y1

/-- That function is the block's part of the whole array of the product. -/
theorem read4 (t : Fin cfg1.N) :
    (fun y : S2048x256.Idx => dxA V c (y 0) (col1 t (y 1))) = ((cfg1.win 4).blk t).view.read (Elt Ideal) (G4 V c) := by
  funext y
  idx_vars y
  show dxA V c y0 (col1 t y1) = G4 V c (((cfg1.win 4).blk t).view.emb (ix2 y0 y1))
  rw [emb1_4]
  rfl

/-- So a point writes back its part of the product. -/
theorem flushed4 (t : Fin cfg1.N) : (dat1 V c).flushed 4 t = ((cfg1.win 4).blk t).view.read (Elt Ideal) (G4 V c) := by
  show (cfg1.win 4).cut (grid1.coords t) ((dat1 V c).after 4 t) = _
  rw [after1_4, blkFn4, read4]

/-- The points' blocks cover the array of the product. -/
theorem covered4 (i : S2048x5120.Idx) : ∃ t : Fin cfg1.N, (cfg1.win 4).flush t = true ∧ i ∈ ((cfg1.win 4).blk t).view.set := by
  idx_vars i
  have hi : i1.val < 5120 := i1.isLt
  have ht : i1.val / 256 < 20 := by omega
  refine ⟨(⟨i1.val / 256, ht⟩ : Fin cfg1.N), flush1_4 _, ?_⟩
  have h := ((cfg1.win 4).blk (⟨i1.val / 256, ht⟩ : Fin cfg1.N)).view.emb_mem_set (ix2 i0 ⟨i1.val % 256, Nat.mod_lt _ (by decide)⟩)
  rw [emb1_4] at h
  have e : col1 (⟨i1.val / 256, ht⟩ : Fin cfg1.N) ⟨i1.val % 256, Nat.mod_lt _ (by decide)⟩ = i1 :=
    Fin.ext (by show i1.val / 256 * 256 + i1.val % 256 = i1.val; omega)
  rw [e] at h
  exact h

/-- The array of the product after the call. -/
theorem arr4 : (dat1 V c).arrAt 4 cfg1.N = G4 V c :=
  (dat1 V c).arrAt_eq_of_cover 4 (G4 V c) (fun t _ => flushed4 V c t) covered4

/-- An element of the codes a block leaves. -/
theorem blkOut5 (t : Fin cfg1.N) (r : Fin 2048) (d : Fin 256) : g5 (vOut (grid1.coords t) (iblk1 V c 0 t) (iblk1 V c 1 t) (iblk1 V c 2 t) (iblk1 V c 3 t)) (ix2 r d) = codeA V c r (col1 t d) := by
  show Spec.code (grp (vOut (grid1.coords t) (iblk1 V c 0 t) (iblk1 V c 1 t) (iblk1 V c 2 t) (iblk1 V c 3 t)) r ⟨d.val / 128, _⟩) ⟨d.val % 128, _⟩ = _
  rw [grp_eq]
  unfold codeA
  have e1 : groupAt (blk1 t) ⟨d.val / 128, by omega⟩ = groupOf (col1 t d) :=
    Fin.ext (by show 2 * t.val + d.val / 128 = (t.val * 256 + d.val) / 128; omega)
  have e2 : (⟨d.val % 128, Nat.mod_lt _ (by decide)⟩ : Fin 128) = laneIn (col1 t d) :=
    Fin.ext (by show d.val % 128 = (t.val * 256 + d.val) % 128; omega)
  rw [e1, e2]

/-- The codes a block leaves, as a function. -/
theorem blkFn5 (t : Fin cfg1.N) :
    (outsAt1 V c t).2.1 = fun y : S2048x256.Idx => codeA V c (y 0) (col1 t (y 1)) := by
  unfold outsAt1
  dsimp only
  rw [out5_apply]
  funext y
  idx_vars y
  exact blkOut5 V c t y0 y1

/-- That function is the block's part of the whole array of the codes. -/
theorem read5 (t : Fin cfg1.N) :
    (fun y : S2048x256.Idx => codeA V c (y 0) (col1 t (y 1))) = ((cfg1.win 5).blk t).view.read (Elt Ideal) (G5 V c) := by
  funext y
  idx_vars y
  show codeA V c y0 (col1 t y1) = G5 V c (((cfg1.win 5).blk t).view.emb (ix2 y0 y1))
  rw [emb1_5]
  rfl

/-- So a point writes back its part of the codes. -/
theorem flushed5 (t : Fin cfg1.N) : (dat1 V c).flushed 5 t = ((cfg1.win 5).blk t).view.read (Elt Ideal) (G5 V c) := by
  show (cfg1.win 5).cut (grid1.coords t) ((dat1 V c).after 5 t) = _
  rw [after1_5, blkFn5, read5]

/-- The points' blocks cover the array of the codes. -/
theorem covered5 (i : S2048x5120.Idx) : ∃ t : Fin cfg1.N, (cfg1.win 5).flush t = true ∧ i ∈ ((cfg1.win 5).blk t).view.set := by
  idx_vars i
  have hi : i1.val < 5120 := i1.isLt
  have ht : i1.val / 256 < 20 := by omega
  refine ⟨(⟨i1.val / 256, ht⟩ : Fin cfg1.N), flush1_5 _, ?_⟩
  have h := ((cfg1.win 5).blk (⟨i1.val / 256, ht⟩ : Fin cfg1.N)).view.emb_mem_set (ix2 i0 ⟨i1.val % 256, Nat.mod_lt _ (by decide)⟩)
  rw [emb1_5] at h
  have e : col1 (⟨i1.val / 256, ht⟩ : Fin cfg1.N) ⟨i1.val % 256, Nat.mod_lt _ (by decide)⟩ = i1 :=
    Fin.ext (by show i1.val / 256 * 256 + i1.val % 256 = i1.val; omega)
  rw [e] at h
  exact h

/-- The array of the codes after the call. -/
theorem arr5 : (dat1 V c).arrAt 5 cfg1.N = G5 V c :=
  (dat1 V c).arrAt_eq_of_cover 5 (G5 V c) (fun t _ => flushed5 V c t) covered5

/-- An element of the scales a block leaves. -/
theorem blkOut6 (t : Fin cfg1.N) (z : Fin 1) (r : Fin 2048) (h : Fin 2) : g6 (vOut (grid1.coords t) (iblk1 V c 0 t) (iblk1 V c 1 t) (iblk1 V c 2 t) (iblk1 V c 3 t)) (ix3 z r h) = scaleA V c (blk1 t) r h := by
  show Spec.scale (grp (vOut (grid1.coords t) (iblk1 V c 0 t) (iblk1 V c 1 t) (iblk1 V c 2 t) (iblk1 V c 3 t)) r h) = _
  rw [grp_eq]
  rfl

/-- The scales a block leaves, as a function. -/
theorem blkFn6 (t : Fin cfg1.N) :
    (outsAt1 V c t).2.2 = fun y : S1x2048x2.Idx => scaleA V c (blk1 t) (y 1) (y 2) := by
  unfold outsAt1
  dsimp only
  rw [out6_apply]
  funext y
  idx_vars y
  exact blkOut6 V c t y0 y1 y2

/-- That function is the block's part of the whole array of the scales. -/
theorem read6 (t : Fin cfg1.N) :
    (fun y : S1x2048x2.Idx => scaleA V c (blk1 t) (y 1) (y 2)) = ((cfg1.win 6).blk t).view.read (Elt Ideal) (G6 V c) := by
  funext y
  idx_vars y
  show scaleA V c (blk1 t) y1 y2 = G6 V c (((cfg1.win 6).blk t).view.emb (ix3 y0 y1 y2))
  rw [emb1_6]
  rfl

/-- So a point writes back its part of the scales. -/
theorem flushed6 (t : Fin cfg1.N) : (dat1 V c).flushed 6 t = ((cfg1.win 6).blk t).view.read (Elt Ideal) (G6 V c) := by
  show (cfg1.win 6).cut (grid1.coords t) ((dat1 V c).after 6 t) = _
  rw [after1_6, blkFn6, read6]

/-- The points' blocks cover the array of the scales. -/
theorem covered6 (i : S20x2048x2.Idx) : ∃ t : Fin cfg1.N, (cfg1.win 6).flush t = true ∧ i ∈ ((cfg1.win 6).blk t).view.set := by
  idx_vars i
  have ht : i0.val < 20 := i0.isLt
  refine ⟨(⟨i0.val, ht⟩ : Fin cfg1.N), flush1_6 _, ?_⟩
  have h := ((cfg1.win 6).blk (⟨i0.val, ht⟩ : Fin cfg1.N)).view.emb_mem_set (ix3 0 i1 i2)
  rw [emb1_6] at h
  exact h

/-- The array of the scales after the call. -/
theorem arr6 : (dat1 V c).arrAt 6 cfg1.N = G6 V c :=
  (dat1 V c).arrAt_eq_of_cover 6 (G6 V c) (fun t _ => flushed6 V c t) covered6

end Cert.KernelIdeal.Mm
-- ==== Proof.KernelRun.lean ====
/-
  The kernel's run with its five results named: each ends at what the last stretch of host operations leaves in it, the
  arguments as launched.
-/
module

public import proofs.«01_k».proof.Proof.Gen.KernelIdeal.Frame

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each result at the contents that the last host stretch leaves, the arguments unchanged. -/
theorem run : θ_run defs (onTc (τ := τ) (main (F := F))) ⟨m, fun _ => 0, ρ⟩ (fun r => ∀ c : Dev nD,
      r.2.mem ((c.tc : Thread nD τ).loc main_v20) = W5 m ρ c (Proc.devRef .tc main_v20)
      ∧ r.2.mem ((c.tc : Thread nD τ).loc main_v21) = W5 m ρ c (Proc.devRef .tc main_v21)
      ∧ r.2.mem ((c.tc : Thread nD τ).loc main_v22) = W5 m ρ c (Proc.devRef .tc main_v22)
      ∧ r.2.mem ((c.tc : Thread nD τ).loc main_v23) = W5 m ρ c (Proc.devRef .tc main_v23)
      ∧ r.2.mem ((c.tc : Thread nD τ).loc main_v25) = W5 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨h c _ (mem_uc main_v20 (by decide)),
       h c _ (mem_uc main_v21 (by decide)),
       h c _ (mem_uc main_v22 (by decide)),
       h c _ (mem_uc main_v23 (by decide)),
       h c _ (mem_uc main_v25 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.Run
-- ==== Proof.KernelHost.lean ====
/-
  The kernel's host operations at an index: what the two calls are given, from the arguments.
-/
module

public import proofs.«01_k».proof.Proof.Rows
public import proofs.«01_k».proof.Proof.QuantArr
public import proofs.«01_k».proof.Proof.MmArr
public import proofs.«01_k».proof.Proof.KernelRun
public import Idealize.ShloMosaic.Lib.StableHlo.ReadAt

@[expose] public section

set_option maxRecDepth 16384

noncomputable section

namespace Cert.KernelIdeal.Host

open Idealize.ShloMosaic Idealize.ShloMosaic.TcCoe Cert.KernelIdeal Cert.KernelIdeal.Gen Idealize.SL.Sem

variable (m : (ℓ : Loc nD τ sig) → Buf (Elt Ideal) ℓ) (ρ : Dev nD → PrngReg) (c : Dev nD)

/-- Row `s` of batch `b` among the 2048 rows. -/
def row (b : Fin 2) (s : Fin 1024) : Fin 2048 := ⟨b.val * 1024 + s.val, by omega⟩

/-- The batch of a row is its number over 1024. -/
theorem row_div (b : Fin 2) (s : Fin 1024) (h : (row b s).val / 1024 < 2) : (⟨(row b s).val / 1024, h⟩ : Fin 2) = b :=
  Fin.ext (by show (b.val * 1024 + s.val) / 1024 = b.val; omega)
/-- Its place in the batch is the remainder. -/
theorem row_mod (b : Fin 2) (s : Fin 1024) (h : (row b s).val % 1024 < 1024) : (⟨(row b s).val % 1024, h⟩ : Fin 1024) = s :=
  Fin.ext (by show (b.val * 1024 + s.val) % 1024 = s.val; omega)

/-! ## What the quantising call is given -/

/-- The position of a row. -/
theorem pos_apply (b : Fin 2) (s : Fin 1024) (z : Fin 1) :
    V1 m ρ c main_v13 (ix2 (row b s) z) = m ((c : Thread nD τ).loc main_arg4) (ix2 b s) := by
  unfold V1 W1
  after_reads_at
  rw [row_div, row_mod]

/-- The queries of a row. -/
theorem q_apply (b : Fin 2) (s : Fin 1024) (h : Fin 40) (k : Fin 128) :
    V1 m ρ c main_v14 (ix3 (row b s) h k) = m ((c : Thread nD τ).loc main_arg0) (ix4 b s h k) := by
  unfold V1 W1
  after_reads_at
  rw [row_div, row_mod]

/-- The keys of a row. -/
theorem k_apply (b : Fin 2) (s : Fin 1024) (h : Fin 8) (k : Fin 128) :
    V1 m ρ c main_v15 (ix3 (row b s) h k) = m ((c : Thread nD τ).loc main_arg1) (ix4 b s h k) := by
  unfold V1 W1
  after_reads_at
  rw [row_div, row_mod]

/-- The values of a row. -/
theorem v_apply (b : Fin 2) (s : Fin 1024) (h : Fin 8) (k : Fin 128) :
    V1 m ρ c main_v16 (ix3 (row b s) h k) = m ((c : Thread nD τ).loc main_arg2) (ix4 b s h k) := by
  unfold V1 W1
  after_reads_at
  rw [row_div, row_mod]

/-- The 64 frequencies. -/
theorem freq64 (j : Fin 64) : StableHlo.upto hostOps0 (W0 m ρ c) 16 (Proc.devRef .tc main_v10) (ix1 j) = Spec.freq j := by
  after_reads_at
  rfl

/-- The frequencies, each written twice along the head. -/
theorem freq_apply (z : Fin 1) (k : Fin 128) :
    V1 m ρ c main_v12 (ix2 z k) = Spec.freq ⟨k.val % 64, Nat.mod_lt _ (by decide)⟩ := by
  unfold V1 W1
  after_reads_at
  by_cases hk : k.val < 64
  · rw [dif_pos hk]
    refine (freq64 m ρ c _).trans ?_
    congr 1
    exact Fin.ext (Nat.mod_eq_of_lt hk).symm
  · rw [dif_neg hk]
    refine (freq64 m ρ c _).trans ?_
    congr 1
    exact Fin.ext (by show k.val - 64 = k.val % 64; omega)

/-! ## What the matrix call is given besides -/

/-- The weights are the argument. -/
theorem w_apply (y : S5120x7168.Idx) : V3 m ρ c main_arg5 y = m ((c : Thread nD τ).loc main_arg5) y :=
  congrFun (W3_args m ρ c main_arg5 (by decide)) y

/-- The weights' scales are the argument. -/
theorem s_apply (y : S40x56.Idx) : V3 m ρ c main_arg6 y = m ((c : Thread nD τ).loc main_arg6) y :=
  congrFun (W3_args m ρ c main_arg6 (by decide)) y

/-- The residual of a row. -/
theorem res_apply (b : Fin 2) (s : Fin 1024) (d : Fin 5120) :
    V3 m ρ c main_v18 (ix2 (row b s) d) = m ((c : Thread nD τ).loc main_arg3) (ix3 b s d) := by
  unfold V3 W3
  after_reads_at
  rw [row_div, row_mod]
  exact congrFun (W2_args m ρ c main_arg3 (by decide)) _

/-- The rows are the dequantised ones of the quantising call. -/
theorem rows_apply : V3 m ρ c main_v17_2 = Block.G7 (V1 m ρ) c :=
  (W3_of m ρ c main_v17_2 (by decide)).trans ((W2_arr m ρ c 7).trans (Block.arr7 (V1 m ρ) c))

/-! ## The results -/

/-- The product, as the kernel returns it. -/
theorem dx_apply (b : Fin 2) (s : Fin 1024) (d : Fin 5120) :
    W5 m ρ c (Proc.devRef .tc main_v20) (ix3 b s d) = Mm.dxA (V3 m ρ) c (row b s) d := by
  unfold W5
  after_reads_at
  exact congrFun ((W4_arr m ρ c 4).trans (Mm.arr4 (V3 m ρ) c)) _

/-- The codes of the rows, as the kernel returns them. -/
theorem gcode_apply (b : Fin 2) (s : Fin 1024) (y : Fin 7168) :
    W5 m ρ c (Proc.devRef .tc main_v21) (ix3 b s y) = Block.code5 (V1 m ρ) c (row b s) y := by
  unfold W5
  after_reads_at
  exact congrFun ((W4_of m ρ c main_v17_0 (by decide)).trans ((W3_of m ρ c main_v17_0 (by decide)).trans
    ((W2_arr m ρ c 5).trans (Block.arr5 (V1 m ρ) c)))) _

/-- The scales of the rows, as the kernel returns them. -/
theorem gscale_apply (b : Fin 2) (s : Fin 1024) (h : Fin 56) :
    W5 m ρ c (Proc.devRef .tc main_v22) (ix3 b s h) = Block.scale6 (V1 m ρ) c (row b s) h := by
  unfold W5
  after_reads_at
  exact congrFun ((W4_of m ρ c main_v17_1 (by decide)).trans ((W3_of m ρ c main_v17_1 (by decide)).trans
    ((W2_arr m ρ c 6).trans (Block.arr6 (V1 m ρ) c)))) _

/-- The codes of the product, as the kernel returns them. -/
theorem dcode_apply (b : Fin 2) (s : Fin 1024) (d : Fin 5120) :
    W5 m ρ c (Proc.devRef .tc main_v23) (ix3 b s d) = Mm.codeA (V3 m ρ) c (row b s) d := by
  unfold W5
  after_reads_at
  exact congrFun ((W4_arr m ρ c 5).trans (Mm.arr5 (V3 m ρ) c)) _

/-- The scales of the product, as the kernel returns them: group `d` is half `d % 2` of block `d / 2`. -/
theorem dscale_apply (b : Fin 2) (s : Fin 1024) (d : Fin 40) :
    W5 m ρ c (Proc.devRef .tc main_v25) (ix3 b s d) = Mm.scaleA (V3 m ρ) c ⟨d.val / 2, by omega⟩ (row b s) ⟨d.val % 2, by omega⟩ := by
  unfold W5
  after_reads_at
  exact congrFun ((W4_arr m ρ c 6).trans (Mm.arr6 (V3 m ρ) c)) _

end Cert.KernelIdeal.Host

end
-- ==== Proof.RefBlock.lean ====
/-
  What the reference computes in its one block, at an index: the quantised rows and their dequantised values, the product
  with the dequantised weights, and the quantised result.
-/
module

public import proofs.«01_k».proof.Proof.RefSpec
public import proofs.«01_k».proof.Proof.Gen.ReferenceIdeal.Frame
public import Idealize.ShloMosaic.Lib.Pointwise

@[expose] public section

set_option maxRecDepth 16384

noncomputable section

namespace Cert.ReferenceIdeal.Ref

open Idealize.ShloMosaic Cert.ReferenceIdeal Cert.ReferenceIdeal.Gen Idealize.SL.Sem

/-- The named constant of the quantiser denotes the natural logarithm of two. -/
theorem ln2_eq : Named.named (F := Ideal) Cert.ReferenceIdeal.κ "ln2" (φ := .f32) 0x3F317218#32 = ((Real.log 2 : ℝ) : EReal) :=
  IdealRules.named_const.ideal_named_scalar _ _ _ _ rfl

/-- A power of two of an array, at an index. -/
theorem exp2_at {S : Shape} (e : FVec Ideal S .f32) (y : S.Idx) : exp2 e y = Ideal.exp2 (e y) := rfl

/-! ## The quantiser over a [2, 1024, 56, 128] array -/

/-- The largest absolute value of each head. -/
theorem amax56 (v : FVec Ideal S2x1024x56x128 .f32) (b : Fin 2) (s : Fin 1024) (h : Fin 56) :
    multiReduction .maximumf [3] S2x1024x56 (absf v) 0xFF800000#32 reduces_S2x1024x56x128_S2x1024x56 (.inl rfl) rfl (ix3 b s h)
      = Spec.amax fun k => v (ix4 b s h k) := by
  pointwise [Spec.amax]

/-- The exponent from those values. -/
theorem exp56 (a : FVec Ideal S2x1024x56 .f32) (b : Fin 2) (s : Fin 1024) (h : Fin 56) :
    select (cmpf .oeq a (broadcast S2x1024x56 (Scalar.ofBits .f32 0x00000000#32))) (broadcast S2x1024x56 (Scalar.ofBits .f32 0x00000000#32))
        (addf (floor (divf (log (mulf a (broadcast S2x1024x56 (Scalar.ofBits .f32 0x37924925#32))))
          (broadcast S2x1024x56 (Named.named κ "ln2" 0x3F317218#32)))) (broadcast S2x1024x56 (Scalar.ofBits .f32 0x3F800000#32))) (ix3 b s h)
      = (if a (ix3 b s h) = (0 : EReal) then (0 : EReal) else Ideal.liftRound Int.floor (Ideal.div
          (Ideal.log ((a (ix3 b s h) : EReal) * Ideal.ofBits .f32 0x37924925#32)) ((Real.log 2 : ℝ) : EReal)) + 1) := by
  pointwise [ln2_eq]

/-- The codes from the values and the exponents. -/
theorem codes56 (v : FVec Ideal S2x1024x56x128 .f32) (e : FVec Ideal S2x1024x56 .f32) (b : Fin 2) (s : Fin 1024) (h : Fin 56) (k : Fin 128) :
    truncf .fp8e5m2 (minimumf (broadcast S2x1024x56x128 (Scalar.ofBits .f32 0x47600000#32)) (maximumf (broadcast S2x1024x56x128 (Scalar.ofBits .f32 0xC7600000#32))
        (mulf v (broadcastTo S2x1024x56x128 (shapeCast S2x1024x56x1 (exp2 (subf (broadcast S2x1024x56 (Scalar.ofBits .f32 0x00000000#32)) e))
          shapeCasts_S2x1024x56_S2x1024x56x1) broadcasts_S2x1024x56x1_S2x1024x56x128)))) bitsLt_fp8e5m2_f32 (ix4 b s h k)
      = min (Ideal.ofBits .f32 0x47600000#32) (max (Ideal.ofBits .f32 0xC7600000#32)
          ((v (ix4 b s h k) : EReal) * Ideal.exp2 (0 - (e (ix3 b s h) : EReal)))) := by
  pointwise
  rfl

/-- The dequantised rows from codes and scales, the heads side by side. -/
theorem deq56 (p : FVec Ideal S2x1024x56x128 .fp8e5m2) (q : FVec Ideal S2x1024x56 .f32) (r : Fin 2048) (k : Fin 7168) :
    shapeCast S2048x7168 (mulf (extf .bf16 p bitsLt_fp8e5m2_bf16)
        (broadcastTo S2x1024x56x128 (shapeCast S2x1024x56x1 (truncf .bf16 q bitsLt_bf16_f32) shapeCasts_S2x1024x56_S2x1024x56x1)
          broadcasts_S2x1024x56x1_S2x1024x56x128)) shapeCasts_S2x1024x56x128_S2048x7168 (ix2 r k)
      = (p (ix4 ⟨r.val / 1024, by omega⟩ ⟨r.val % 1024, by omega⟩ (Spec.headOf k) (Spec.laneOf k)) : EReal)
        * q (ix3 ⟨r.val / 1024, by omega⟩ ⟨r.val % 1024, by omega⟩ (Spec.headOf k)) := by
  pointwise [Spec.headOf, Spec.laneOf]

/-- The rows are used as they are loaded. -/
theorem same56 (v : Vec Ideal S2x1024x56x128 .f32) : k0_pay2 v = v := by
  funext y
  idx_vars y
  pointwise [k0_pay2]

/-- Head `h` of row `s` of batch `b`. -/
def headR (g : Vec Ideal S2x1024x56x128 .f32) (b : Fin 2) (s : Fin 1024) (h : Fin 56) : Fin 128 → EReal := fun k => g (ix4 b s h k)

/-- The exponent of a head. -/
theorem exp_apply (g : Vec Ideal S2x1024x56x128 .f32) (b : Fin 2) (s : Fin 1024) (h : Fin 56) :
    k0_pay3 g (ix3 b s h) = Spec.rexp (headR g b s h) := by
  unfold k0_pay3
  rw [same56]
  exact (exp56 _ b s h).trans (by rw [amax56]; rfl)

/-- The scale of a head. -/
theorem scale_apply (g : Vec Ideal S2x1024x56x128 .f32) (b : Fin 2) (s : Fin 1024) (h : Fin 56) :
    k0_pay4 g (ix3 b s h) = Spec.rscale (headR g b s h) := by
  unfold k0_pay4
  exact (exp2_at _ _).trans (congrArg Ideal.exp2 (exp_apply g b s h))

/-- The code of a lane of a head. -/
theorem code_apply (g : Vec Ideal S2x1024x56x128 .f32) (b : Fin 2) (s : Fin 1024) (h : Fin 56) (k : Fin 128) :
    k0_pay5 g (ix4 b s h k) = Spec.rcode (headR g b s h) k := by
  unfold k0_pay5
  rw [same56]
  exact (codes56 _ _ b s h k).trans (by rw [exp_apply]; rfl)

/-- The dequantised value of a lane of a row. -/
theorem deq_apply (g : Vec Ideal S2x1024x56x128 .f32) (r : Fin 2048) (k : Fin 7168) :
    k0_pay6 g (ix2 r k) = Spec.rdeq (headR g ⟨r.val / 1024, by omega⟩ ⟨r.val % 1024, by omega⟩ (Spec.headOf k)) (Spec.laneOf k) := by
  unfold k0_pay6
  exact (deq56 _ _ r k).trans (by rw [code_apply, scale_apply]; rfl)

/-- The codes as the [2, 1024, 7168] result holds them. -/
theorem codesOut_apply (p : FVec Ideal S2x1024x56x128 .fp8e5m2) (b : Fin 2) (s : Fin 1024) (y : Fin 7168) :
    k0_pay14 p (ix3 b s y) = p (ix4 b s (Spec.headOf y) (Spec.laneOf y)) := by
  pointwise [k0_pay14, Spec.headOf, Spec.laneOf]

/-! ## The product -/

/-- The dequantised weights. -/
theorem w_apply (w : Vec Ideal S5120x7168 .fp8e4m3) (s : Vec Ideal S40x56 .f32) (d : Fin 5120) (k : Fin 7168) :
    k0_pay7 w s (ix2 d k) = (w (ix2 d k) : EReal) * s (ix2 (⟨d.val / 128, by omega⟩ : Fin 40) (Spec.headOf k)) := by
  pointwise [k0_pay7, Spec.headOf]

/-- The product of the rows with the weights, the residual added. -/
theorem prod_apply (x : FVec Ideal S2048x7168 .bf16) (w : FVec Ideal S5120x7168 .bf16) (v : Vec Ideal S2x1024x5120 .bf16)
    (b : Fin 2) (s : Fin 1024) (d : Fin 5120) :
    k0_pay8 x w v (ix3 b s d) = (∑ k : Fin 7168, (x (ix2 ⟨b.val * 1024 + s.val, by omega⟩ k) : EReal) * w (ix2 d k)) + v (ix3 b s d) := by
  pointwise [k0_pay8]

/-- The product as it is stored. -/
theorem prodOut_apply (x : FVec Ideal S2048x7168 .bf16) (w : FVec Ideal S5120x7168 .bf16) (v : Vec Ideal S2x1024x5120 .bf16)
    (b : Fin 2) (s : Fin 1024) (d : Fin 5120) : k0_pay13 x w v (ix3 b s d) = k0_pay8 x w v (ix3 b s d) := rfl

/-! ## The quantiser over a [2, 1024, 40, 128] array -/

/-- The largest absolute value of each group. -/
theorem amax40 (v : FVec Ideal S2x1024x40x128 .f32) (b : Fin 2) (s : Fin 1024) (h : Fin 40) :
    multiReduction .maximumf [3] S2x1024x40 (absf v) 0xFF800000#32 reduces_S2x1024x40x128_S2x1024x40 (.inl rfl) rfl (ix3 b s h)
      = Spec.amax fun k => v (ix4 b s h k) := by
  pointwise [Spec.amax]

/-- The exponent from those values. -/
theorem exp40 (a : FVec Ideal S2x1024x40 .f32) (b : Fin 2) (s : Fin 1024) (h : Fin 40) :
    select (cmpf .oeq a (broadcast S2x1024x40 (Scalar.ofBits .f32 0x00000000#32))) (broadcast S2x1024x40 (Scalar.ofBits .f32 0x00000000#32))
        (addf (floor (divf (log (mulf a (broadcast S2x1024x40 (Scalar.ofBits .f32 0x37924925#32))))
          (broadcast S2x1024x40 (Named.named κ "ln2" 0x3F317218#32)))) (broadcast S2x1024x40 (Scalar.ofBits .f32 0x3F800000#32))) (ix3 b s h)
      = (if a (ix3 b s h) = (0 : EReal) then (0 : EReal) else Ideal.liftRound Int.floor (Ideal.div
          (Ideal.log ((a (ix3 b s h) : EReal) * Ideal.ofBits .f32 0x37924925#32)) ((Real.log 2 : ℝ) : EReal)) + 1) := by
  pointwise [ln2_eq]

/-- The codes from the values and the exponents. -/
theorem codes40 (v : FVec Ideal S2x1024x40x128 .f32) (e : FVec Ideal S2x1024x40 .f32) (b : Fin 2) (s : Fin 1024) (h : Fin 40) (k : Fin 128) :
    truncf .fp8e5m2 (minimumf (broadcast S2x1024x40x128 (Scalar.ofBits .f32 0x47600000#32)) (maximumf (broadcast S2x1024x40x128 (Scalar.ofBits .f32 0xC7600000#32))
        (mulf v (broadcastTo S2x1024x40x128 (shapeCast S2x1024x40x1 (exp2 (subf (broadcast S2x1024x40 (Scalar.ofBits .f32 0x00000000#32)) e))
          shapeCasts_S2x1024x40_S2x1024x40x1) broadcasts_S2x1024x40x1_S2x1024x40x128)))) bitsLt_fp8e5m2_f32 (ix4 b s h k)
      = min (Ideal.ofBits .f32 0x47600000#32) (max (Ideal.ofBits .f32 0xC7600000#32)
          ((v (ix4 b s h k) : EReal) * Ideal.exp2 (0 - (e (ix3 b s h) : EReal)))) := by
  pointwise
  rfl

/-- The product split into groups of 128 columns. -/
theorem group_apply (x : FVec Ideal S2048x7168 .bf16) (w : FVec Ideal S5120x7168 .bf16) (v : Vec Ideal S2x1024x5120 .bf16)
    (b : Fin 2) (s : Fin 1024) (h : Fin 40) (k : Fin 128) :
    k0_pay9 x w v (ix4 b s h k) = k0_pay8 x w v (ix3 b s (⟨h.val * 128 + k.val, by omega⟩ : Fin 5120)) := by
  pointwise [k0_pay9]

/-- Group `h` of row `s` of batch `b` of the product. -/
def groupR (x : FVec Ideal S2048x7168 .bf16) (w : FVec Ideal S5120x7168 .bf16) (v : Vec Ideal S2x1024x5120 .bf16)
    (b : Fin 2) (s : Fin 1024) (h : Fin 40) : Fin 128 → EReal := fun k => k0_pay8 x w v (ix3 b s (⟨h.val * 128 + k.val, by omega⟩ : Fin 5120))

/-- The exponent of a group of the product. -/
theorem dexp_apply (x : FVec Ideal S2048x7168 .bf16) (w : FVec Ideal S5120x7168 .bf16) (v : Vec Ideal S2x1024x5120 .bf16)
    (b : Fin 2) (s : Fin 1024) (h : Fin 40) : k0_pay10 x w v (ix3 b s h) = Spec.rexp (groupR x w v b s h) := by
  unfold k0_pay10
  exact (exp40 _ b s h).trans (by rw [amax40]; simp only [group_apply]; rfl)

/-- The scale of a group of the product. -/
theorem dscale_apply (x : FVec Ideal S2048x7168 .bf16) (w : FVec Ideal S5120x7168 .bf16) (v : Vec Ideal S2x1024x5120 .bf16)
    (b : Fin 2) (s : Fin 1024) (h : Fin 40) : k0_pay11 x w v (ix3 b s h) = Spec.rscale (groupR x w v b s h) := by
  unfold k0_pay11
  exact (exp2_at _ _).trans (congrArg Ideal.exp2 (dexp_apply x w v b s h))

/-- The code of a lane of a group of the product. -/
theorem dcode_apply (x : FVec Ideal S2048x7168 .bf16) (w : FVec Ideal S5120x7168 .bf16) (v : Vec Ideal S2x1024x5120 .bf16)
    (b : Fin 2) (s : Fin 1024) (h : Fin 40) (k : Fin 128) : k0_pay12 x w v (ix4 b s h k) = Spec.rcode (groupR x w v b s h) k := by
  unfold k0_pay12
  exact (codes40 _ _ b s h k).trans (by rw [dexp_apply, group_apply]; rfl)

/-- The codes as the [2, 1024, 5120] result holds them. -/
theorem dcodesOut_apply (p : FVec Ideal S2x1024x40x128 .fp8e5m2) (b : Fin 2) (s : Fin 1024) (d : Fin 5120) :
    k0_pay1 p (ix3 b s d) = p (ix4 b s (⟨d.val / 128, by omega⟩ : Fin 40) (⟨d.val % 128, by omega⟩ : Fin 128)) := by
  pointwise [k0_pay1]

end Cert.ReferenceIdeal.Ref

end
-- ==== Proof.RefArr.lean ====
/-
  The five arrays the reference's call leaves: each the payload of one store, of the whole of the arrays the call is given.
-/
module

public import proofs.«01_k».proof.Proof.RefBlock

@[expose] public section

set_option maxRecDepth 16384

noncomputable section

namespace Cert.ReferenceIdeal.Ref

open Idealize.ShloMosaic Idealize.ShloMosaic.TcCoe Cert.ReferenceIdeal Cert.ReferenceIdeal.Gen Idealize.SL.Sem

/-- Offsets of zero on two axes. -/
theorem zero2 : (![0, 0] : Fin 2 → Nat) = fun _ => 0 := funext fun a => by fin_cases a <;> rfl
/-- Offsets of zero on three axes. -/
theorem zero3 : (![0, 0, 0] : Fin 3 → Nat) = fun _ => 0 := funext fun a => by fin_cases a <;> rfl
/-- Offsets of zero on four axes. -/
theorem zero4 : (![0, 0, 0, 0] : Fin 4 → Nat) = fun _ => 0 := funext fun a => by fin_cases a <;> rfl

/-! ## What each output's buffer holds after the body -/

variable (x0 : Vec Ideal S2x1024x56x128 .f32) (x1 : Vec Ideal S2x1024x5120 .bf16) (x2 : Vec Ideal S5120x7168 .fp8e4m3) (x3 : Vec Ideal S40x56 .f32)

/-- The call's product. -/
def out4 : Vec Ideal S2x1024x5120 .bf16 := k0_pay13 (k0_pay6 x0) (k0_pay7 x2 x3) x1
/-- The call's codes of its rows. -/
def out5 : Vec Ideal S2x1024x7168 .fp8e5m2 := k0_pay14 (k0_pay5 x0)
/-- The call's scales of its rows. -/
def out6 : Vec Ideal S2x1024x56 .f32 := k0_pay4 x0
/-- The call's codes of the product. -/
def out7 : Vec Ideal S2x1024x5120 .fp8e5m2 := k0_pay1 (k0_pay12 (k0_pay6 x0) (k0_pay7 x2 x3) x1)
/-- The call's scales of the product. -/
def out8 : Vec Ideal S2x1024x40 .f32 := k0_pay11 (k0_pay6 x0) (k0_pay7 x2 x3) x1

/-- The rows are loaded whole. -/
theorem rows_eq : k0_pay15 x0 x1 x2 x3 = k0_pay6 x0 := by unfold k0_pay15; rw [View.ld_unit_zero zero4]
/-- The weights and their scales are loaded whole. -/
theorem weights_eq : k0_pay16 x0 x1 x2 x3 = k0_pay7 x2 x3 := by
  unfold k0_pay16; rw [View.ld_unit_zero zero2, View.ld_unit_zero zero2]

/-- The product's buffer. -/
theorem out4_eq : out0_4 x0 x1 x2 x3 = out4 x0 x1 x2 x3 := by
  unfold out0_4 out4; rw [View.canon_unit_zero zero3, View.ld_unit_zero zero3, rows_eq, weights_eq]
/-- The rows' codes' buffer. -/
theorem out5_eq : out0_5 x0 x1 x2 x3 = out5 x0 := by
  unfold out0_5 out5; rw [View.canon_unit_zero zero3, View.ld_unit_zero zero4]
/-- The rows' scales' buffer. -/
theorem out6_eq : out0_6 x0 x1 x2 x3 = out6 x0 := by
  unfold out0_6 out6; rw [View.canon_unit_zero zero3, View.ld_unit_zero zero4]
/-- The product's codes' buffer. -/
theorem out7_eq : out0_7 x0 x1 x2 x3 = out7 x0 x1 x2 x3 := by
  unfold out0_7 out7; rw [View.canon_unit_zero zero3, View.ld_unit_zero zero3, rows_eq, weights_eq]
/-- The product's scales' buffer. -/
theorem out8_eq : out0_8 x0 x1 x2 x3 = out8 x0 x1 x2 x3 := by
  unfold out0_8 out8; rw [View.canon_unit_zero zero3, View.ld_unit_zero zero3, rows_eq, weights_eq]

/-! ## A window's one block is its whole array -/

/-- The block of the rows at each point. -/
theorem idx0 : ∀ t : Fin cfg0.N, win0_0.index t (0 : Fin 4) = 0 ∧ win0_0.index t (1 : Fin 4) = 0 ∧ win0_0.index t (2 : Fin 4) = 0 ∧ win0_0.index t (3 : Fin 4) = 0 := (by decide +kernel : ∀ t : Fin grid0.N, _)
/-- The block of the residual at each point. -/
theorem idx1 : ∀ t : Fin cfg0.N, win0_1.index t (0 : Fin 3) = 0 ∧ win0_1.index t (1 : Fin 3) = 0 ∧ win0_1.index t (2 : Fin 3) = 0 := (by decide +kernel : ∀ t : Fin grid0.N, _)
/-- The block of the weights at each point. -/
theorem idx2 : ∀ t : Fin cfg0.N, win0_2.index t (0 : Fin 2) = 0 ∧ win0_2.index t (1 : Fin 2) = 0 := (by decide +kernel : ∀ t : Fin grid0.N, _)
/-- The block of the weights' scales at each point. -/
theorem idx3 : ∀ t : Fin cfg0.N, win0_3.index t (0 : Fin 2) = 0 ∧ win0_3.index t (1 : Fin 2) = 0 := (by decide +kernel : ∀ t : Fin grid0.N, _)
/-- The block of the product at each point. -/
theorem idx4 : ∀ t : Fin cfg0.N, win0_4.index t (0 : Fin 3) = 0 ∧ win0_4.index t (1 : Fin 3) = 0 ∧ win0_4.index t (2 : Fin 3) = 0 := (by decide +kernel : ∀ t : Fin grid0.N, _)
/-- The block of the rows' codes at each point. -/
theorem idx5 : ∀ t : Fin cfg0.N, win0_5.index t (0 : Fin 3) = 0 ∧ win0_5.index t (1 : Fin 3) = 0 ∧ win0_5.index t (2 : Fin 3) = 0 := (by decide +kernel : ∀ t : Fin grid0.N, _)
/-- The block of the rows' scales at each point. -/
theorem idx6 : ∀ t : Fin cfg0.N, win0_6.index t (0 : Fin 3) = 0 ∧ win0_6.index t (1 : Fin 3) = 0 ∧ win0_6.index t (2 : Fin 3) = 0 := (by decide +kernel : ∀ t : Fin grid0.N, _)
/-- The block of the product's codes at each point. -/
theorem idx7 : ∀ t : Fin cfg0.N, win0_7.index t (0 : Fin 3) = 0 ∧ win0_7.index t (1 : Fin 3) = 0 ∧ win0_7.index t (2 : Fin 3) = 0 := (by decide +kernel : ∀ t : Fin grid0.N, _)
/-- The block of the product's scales at each point. -/
theorem idx8 : ∀ t : Fin cfg0.N, win0_8.index t (0 : Fin 3) = 0 ∧ win0_8.index t (1 : Fin 3) = 0 ∧ win0_8.index t (2 : Fin 3) = 0 := (by decide +kernel : ∀ t : Fin grid0.N, _)

/-- Where an element of a block of the rows sits in the array. -/
theorem emb0 (t : Fin cfg0.N) (y0 : Fin 2) (y1 : Fin 1024) (y2 : Fin 56) (y3 : Fin 128) : ((cfg0.win 0).blk t).view.emb (ix4 y0 y1 y2 y3) = ix4 y0 y1 y2 y3 := by
  obtain ⟨e0, e1, e2, e3⟩ := idx0 t
  funext a; apply Fin.ext
  match a with
  | ⟨0, _⟩ => show win0_0.index t (0 : Fin 4) * 2 + 1 * y0.val = y0.val; omega
  | ⟨1, _⟩ => show win0_0.index t (1 : Fin 4) * 1024 + 1 * y1.val = y1.val; omega
  | ⟨2, _⟩ => show win0_0.index t (2 : Fin 4) * 56 + 1 * y2.val = y2.val; omega
  | ⟨3, _⟩ => show win0_0.index t (3 : Fin 4) * 128 + 1 * y3.val = y3.val; omega

/-- Where an element of a block of the residual sits in the array. -/
theorem emb1 (t : Fin cfg0.N) (y0 : Fin 2) (y1 : Fin 1024) (y2 : Fin 5120) : ((cfg0.win 1).blk t).view.emb (ix3 y0 y1 y2) = ix3 y0 y1 y2 := by
  obtain ⟨e0, e1, e2⟩ := idx1 t
  funext a; apply Fin.ext
  match a with
  | ⟨0, _⟩ => show win0_1.index t (0 : Fin 3) * 2 + 1 * y0.val = y0.val; omega
  | ⟨1, _⟩ => show win0_1.index t (1 : Fin 3) * 1024 + 1 * y1.val = y1.val; omega
  | ⟨2, _⟩ => show win0_1.index t (2 : Fin 3) * 5120 + 1 * y2.val = y2.val; omega

/-- Where an element of a block of the weights sits in the array. -/
theorem emb2 (t : Fin cfg0.N) (y0 : Fin 5120) (y1 : Fin 7168) : ((cfg0.win 2).blk t).view.emb (ix2 y0 y1) = ix2 y0 y1 := by
  obtain ⟨e0, e1⟩ := idx2 t
  funext a; apply Fin.ext
  match a with
  | ⟨0, _⟩ => show win0_2.index t (0 : Fin 2) * 5120 + 1 * y0.val = y0.val; omega
  | ⟨1, _⟩ => show win0_2.index t (1 : Fin 2) * 7168 + 1 * y1.val = y1.val; omega

/-- Where an element of a block of the weights' scales sits in the array. -/
theorem emb3 (t : Fin cfg0.N) (y0 : Fin 40) (y1 : Fin 56) : ((cfg0.win 3).blk t).view.emb (ix2 y0 y1) = ix2 y0 y1 := by
  obtain ⟨e0, e1⟩ := idx3 t
  funext a; apply Fin.ext
  match a with
  | ⟨0, _⟩ => show win0_3.index t (0 : Fin 2) * 40 + 1 * y0.val = y0.val; omega
  | ⟨1, _⟩ => show win0_3.index t (1 : Fin 2) * 56 + 1 * y1.val = y1.val; omega

/-- Where an element of a block of the product sits in the array. -/
theorem emb4 (t : Fin cfg0.N) (y0 : Fin 2) (y1 : Fin 1024) (y2 : Fin 5120) : ((cfg0.win 4).blk t).view.emb (ix3 y0 y1 y2) = ix3 y0 y1 y2 := by
  obtain ⟨e0, e1, e2⟩ := idx4 t
  funext a; apply Fin.ext
  match a with
  | ⟨0, _⟩ => show win0_4.index t (0 : Fin 3) * 2 + 1 * y0.val = y0.val; omega
  | ⟨1, _⟩ => show win0_4.index t (1 : Fin 3) * 1024 + 1 * y1.val = y1.val; omega
  | ⟨2, _⟩ => show win0_4.index t (2 : Fin 3) * 5120 + 1 * y2.val = y2.val; omega

/-- Where an element of a block of the rows' codes sits in the array. -/
theorem emb5 (t : Fin cfg0.N) (y0 : Fin 2) (y1 : Fin 1024) (y2 : Fin 7168) : ((cfg0.win 5).blk t).view.emb (ix3 y0 y1 y2) = ix3 y0 y1 y2 := by
  obtain ⟨e0, e1, e2⟩ := idx5 t
  funext a; apply Fin.ext
  match a with
  | ⟨0, _⟩ => show win0_5.index t (0 : Fin 3) * 2 + 1 * y0.val = y0.val; omega
  | ⟨1, _⟩ => show win0_5.index t (1 : Fin 3) * 1024 + 1 * y1.val = y1.val; omega
  | ⟨2, _⟩ => show win0_5.index t (2 : Fin 3) * 7168 + 1 * y2.val = y2.val; omega

/-- Where an element of a block of the rows' scales sits in the array. -/
theorem emb6 (t : Fin cfg0.N) (y0 : Fin 2) (y1 : Fin 1024) (y2 : Fin 56) : ((cfg0.win 6).blk t).view.emb (ix3 y0 y1 y2) = ix3 y0 y1 y2 := by
  obtain ⟨e0, e1, e2⟩ := idx6 t
  funext a; apply Fin.ext
  match a with
  | ⟨0, _⟩ => show win0_6.index t (0 : Fin 3) * 2 + 1 * y0.val = y0.val; omega
  | ⟨1, _⟩ => show win0_6.index t (1 : Fin 3) * 1024 + 1 * y1.val = y1.val; omega
  | ⟨2, _⟩ => show win0_6.index t (2 : Fin 3) * 56 + 1 * y2.val = y2.val; omega

/-- Where an element of a block of the product's codes sits in the array. -/
theorem emb7 (t : Fin cfg0.N) (y0 : Fin 2) (y1 : Fin 1024) (y2 : Fin 5120) : ((cfg0.win 7).blk t).view.emb (ix3 y0 y1 y2) = ix3 y0 y1 y2 := by
  obtain ⟨e0, e1, e2⟩ := idx7 t
  funext a; apply Fin.ext
  match a with
  | ⟨0, _⟩ => show win0_7.index t (0 : Fin 3) * 2 + 1 * y0.val = y0.val; omega
  | ⟨1, _⟩ => show win0_7.index t (1 : Fin 3) * 1024 + 1 * y1.val = y1.val; omega
  | ⟨2, _⟩ => show win0_7.index t (2 : Fin 3) * 5120 + 1 * y2.val = y2.val; omega

/-- Where an element of a block of the product's scales sits in the array. -/
theorem emb8 (t : Fin cfg0.N) (y0 : Fin 2) (y1 : Fin 1024) (y2 : Fin 40) : ((cfg0.win 8).blk t).view.emb (ix3 y0 y1 y2) = ix3 y0 y1 y2 := by
  obtain ⟨e0, e1, e2⟩ := idx8 t
  funext a; apply Fin.ext
  match a with
  | ⟨0, _⟩ => show win0_8.index t (0 : Fin 3) * 2 + 1 * y0.val = y0.val; omega
  | ⟨1, _⟩ => show win0_8.index t (1 : Fin 3) * 1024 + 1 * y1.val = y1.val; omega
  | ⟨2, _⟩ => show win0_8.index t (2 : Fin 3) * 40 + 1 * y2.val = y2.val; omega

variable (m : (ℓ : Loc nD τ sig) → Buf (Elt Ideal) ℓ) (c : Dev nD)

/-- The block of the rows is their whole array. -/
theorem iblk0_eq (t : Fin cfg0.N) : iblk m c 0 t = V m c main_v50 := by
  funext y
  idx_vars y
  show V m c main_v50 (((cfg0.win 0).blk t).view.emb (ix4 y0 y1 y2 y3)) = V m c main_v50 (ix4 y0 y1 y2 y3)
  rw [emb0]

/-- The block of the residual is their whole array. -/
theorem iblk1_eq (t : Fin cfg0.N) : iblk m c 1 t = V m c main_arg3 := by
  funext y
  idx_vars y
  show V m c main_arg3 (((cfg0.win 1).blk t).view.emb (ix3 y0 y1 y2)) = V m c main_arg3 (ix3 y0 y1 y2)
  rw [emb1]

/-- The block of the weights is their whole array. -/
theorem iblk2_eq (t : Fin cfg0.N) : iblk m c 2 t = V m c main_arg5 := by
  funext y
  idx_vars y
  show V m c main_arg5 (((cfg0.win 2).blk t).view.emb (ix2 y0 y1)) = V m c main_arg5 (ix2 y0 y1)
  rw [emb2]

/-- The block of the weights' scales is their whole array. -/
theorem iblk3_eq (t : Fin cfg0.N) : iblk m c 3 t = V m c main_arg6 := by
  funext y
  idx_vars y
  show V m c main_arg6 (((cfg0.win 3).blk t).view.emb (ix2 y0 y1)) = V m c main_arg6 (ix2 y0 y1)
  rw [emb3]

/-! ## The arrays after the call -/

/-- The one block of the product is the whole array. -/
theorem cut4 (t : Fin cfg0.N) (X : Vec Ideal S2x1024x5120 .bf16) : (cfg0.win 4).cut (grid0.coords t) X = ((cfg0.win 4).blk t).view.read (Elt Ideal) X := by
  funext y
  idx_vars y
  show X (ix3 y0 y1 y2) = X (((cfg0.win 4).blk t).view.emb (ix3 y0 y1 y2))
  rw [emb4]

/-- So a point writes back its part of the product. -/
theorem flushed4 (t : Fin cfg0.N) : (dats m 0 c).flushed 4 t = ((cfg0.win 4).blk t).view.read (Elt Ideal) (out4 (V m c main_v50) (V m c main_arg3) (V m c main_arg5) (V m c main_arg6)) := by
  show (cfg0.win 4).cut (grid0.coords t) ((dats m 0 c).after 4 t) = _
  rw [after0_4, out4_eq, iblk0_eq, iblk1_eq, iblk2_eq, iblk3_eq]
  exact cut4 t _

/-- The points' blocks cover the array of the product. -/
theorem covered4 (i : S2x1024x5120.Idx) : ∃ t : Fin cfg0.N, (cfg0.win 4).flush t = true ∧ i ∈ ((cfg0.win 4).blk t).view.set := by
  idx_vars i
  refine ⟨t0_0, flush0_4 _, ?_⟩
  have h := ((cfg0.win 4).blk t0_0).view.emb_mem_set (ix3 i0 i1 i2)
  rwa [emb4] at h

/-- The array of the product after the call. -/
theorem arr4 : (dats m 0 c).arrAt 4 cfg0.N = out4 (V m c main_v50) (V m c main_arg3) (V m c main_arg5) (V m c main_arg6) :=
  (dats m 0 c).arrAt_eq_of_cover 4 _ (fun t _ => flushed4 m c t) covered4

/-- The one block of the rows' codes is the whole array. -/
theorem cut5 (t : Fin cfg0.N) (X : Vec Ideal S2x1024x7168 .fp8e5m2) : (cfg0.win 5).cut (grid0.coords t) X = ((cfg0.win 5).blk t).view.read (Elt Ideal) X := by
  funext y
  idx_vars y
  show X (ix3 y0 y1 y2) = X (((cfg0.win 5).blk t).view.emb (ix3 y0 y1 y2))
  rw [emb5]

/-- So a point writes back its part of the rows' codes. -/
theorem flushed5 (t : Fin cfg0.N) : (dats m 0 c).flushed 5 t = ((cfg0.win 5).blk t).view.read (Elt Ideal) (out5 (V m c main_v50)) := by
  show (cfg0.win 5).cut (grid0.coords t) ((dats m 0 c).after 5 t) = _
  rw [after0_5, out5_eq, iblk0_eq]
  exact cut5 t _

/-- The points' blocks cover the array of the rows' codes. -/
theorem covered5 (i : S2x1024x7168.Idx) : ∃ t : Fin cfg0.N, (cfg0.win 5).flush t = true ∧ i ∈ ((cfg0.win 5).blk t).view.set := by
  idx_vars i
  refine ⟨t0_0, flush0_5 _, ?_⟩
  have h := ((cfg0.win 5).blk t0_0).view.emb_mem_set (ix3 i0 i1 i2)
  rwa [emb5] at h

/-- The array of the rows' codes after the call. -/
theorem arr5 : (dats m 0 c).arrAt 5 cfg0.N = out5 (V m c main_v50) :=
  (dats m 0 c).arrAt_eq_of_cover 5 _ (fun t _ => flushed5 m c t) covered5

/-- The one block of the rows' scales is the whole array. -/
theorem cut6 (t : Fin cfg0.N) (X : Vec Ideal S2x1024x56 .f32) : (cfg0.win 6).cut (grid0.coords t) X = ((cfg0.win 6).blk t).view.read (Elt Ideal) X := by
  funext y
  idx_vars y
  show X (ix3 y0 y1 y2) = X (((cfg0.win 6).blk t).view.emb (ix3 y0 y1 y2))
  rw [emb6]

/-- So a point writes back its part of the rows' scales. -/
theorem flushed6 (t : Fin cfg0.N) : (dats m 0 c).flushed 6 t = ((cfg0.win 6).blk t).view.read (Elt Ideal) (out6 (V m c main_v50)) := by
  show (cfg0.win 6).cut (grid0.coords t) ((dats m 0 c).after 6 t) = _
  rw [after0_6, out6_eq, iblk0_eq]
  exact cut6 t _

/-- The points' blocks cover the array of the rows' scales. -/
theorem covered6 (i : S2x1024x56.Idx) : ∃ t : Fin cfg0.N, (cfg0.win 6).flush t = true ∧ i ∈ ((cfg0.win 6).blk t).view.set := by
  idx_vars i
  refine ⟨t0_0, flush0_6 _, ?_⟩
  have h := ((cfg0.win 6).blk t0_0).view.emb_mem_set (ix3 i0 i1 i2)
  rwa [emb6] at h

/-- The array of the rows' scales after the call. -/
theorem arr6 : (dats m 0 c).arrAt 6 cfg0.N = out6 (V m c main_v50) :=
  (dats m 0 c).arrAt_eq_of_cover 6 _ (fun t _ => flushed6 m c t) covered6

/-- The one block of the product's codes is the whole array. -/
theorem cut7 (t : Fin cfg0.N) (X : Vec Ideal S2x1024x5120 .fp8e5m2) : (cfg0.win 7).cut (grid0.coords t) X = ((cfg0.win 7).blk t).view.read (Elt Ideal) X := by
  funext y
  idx_vars y
  show X (ix3 y0 y1 y2) = X (((cfg0.win 7).blk t).view.emb (ix3 y0 y1 y2))
  rw [emb7]

/-- So a point writes back its part of the product's codes. -/
theorem flushed7 (t : Fin cfg0.N) : (dats m 0 c).flushed 7 t = ((cfg0.win 7).blk t).view.read (Elt Ideal) (out7 (V m c main_v50) (V m c main_arg3) (V m c main_arg5) (V m c main_arg6)) := by
  show (cfg0.win 7).cut (grid0.coords t) ((dats m 0 c).after 7 t) = _
  rw [after0_7, out7_eq, iblk0_eq, iblk1_eq, iblk2_eq, iblk3_eq]
  exact cut7 t _

/-- The points' blocks cover the array of the product's codes. -/
theorem covered7 (i : S2x1024x5120.Idx) : ∃ t : Fin cfg0.N, (cfg0.win 7).flush t = true ∧ i ∈ ((cfg0.win 7).blk t).view.set := by
  idx_vars i
  refine ⟨t0_0, flush0_7 _, ?_⟩
  have h := ((cfg0.win 7).blk t0_0).view.emb_mem_set (ix3 i0 i1 i2)
  rwa [emb7] at h

/-- The array of the product's codes after the call. -/
theorem arr7 : (dats m 0 c).arrAt 7 cfg0.N = out7 (V m c main_v50) (V m c main_arg3) (V m c main_arg5) (V m c main_arg6) :=
  (dats m 0 c).arrAt_eq_of_cover 7 _ (fun t _ => flushed7 m c t) covered7

/-- The one block of the product's scales is the whole array. -/
theorem cut8 (t : Fin cfg0.N) (X : Vec Ideal S2x1024x40 .f32) : (cfg0.win 8).cut (grid0.coords t) X = ((cfg0.win 8).blk t).view.read (Elt Ideal) X := by
  funext y
  idx_vars y
  show X (ix3 y0 y1 y2) = X (((cfg0.win 8).blk t).view.emb (ix3 y0 y1 y2))
  rw [emb8]

/-- So a point writes back its part of the product's scales. -/
theorem flushed8 (t : Fin cfg0.N) : (dats m 0 c).flushed 8 t = ((cfg0.win 8).blk t).view.read (Elt Ideal) (out8 (V m c main_v50) (V m c main_arg3) (V m c main_arg5) (V m c main_arg6)) := by
  show (cfg0.win 8).cut (grid0.coords t) ((dats m 0 c).after 8 t) = _
  rw [after0_8, out8_eq, iblk0_eq, iblk1_eq, iblk2_eq, iblk3_eq]
  exact cut8 t _

/-- The points' blocks cover the array of the product's scales. -/
theorem covered8 (i : S2x1024x40.Idx) : ∃ t : Fin cfg0.N, (cfg0.win 8).flush t = true ∧ i ∈ ((cfg0.win 8).blk t).view.set := by
  idx_vars i
  refine ⟨t0_0, flush0_8 _, ?_⟩
  have h := ((cfg0.win 8).blk t0_0).view.emb_mem_set (ix3 i0 i1 i2)
  rwa [emb8] at h

/-- The array of the product's scales after the call. -/
theorem arr8 : (dats m 0 c).arrAt 8 cfg0.N = out8 (V m c main_v50) (V m c main_arg3) (V m c main_arg5) (V m c main_arg6) :=
  (dats m 0 c).arrAt_eq_of_cover 8 _ (fun t _ => flushed8 m c t) covered8

end Cert.ReferenceIdeal.Ref

end
-- ==== Proof.RefHost.lean ====
/-
  The rows the reference's call is given: each head is the argument's head, rotated back where it is rotated.
-/
module

public import proofs.«01_k».proof.Proof.Rows
public import proofs.«01_k».proof.Proof.RefArr
public import Idealize.ShloMosaic.Lib.StableHlo.ReadAt

@[expose] public section

set_option maxRecDepth 16384

noncomputable section

namespace Cert.ReferenceIdeal.Ref

open Idealize.ShloMosaic Idealize.ShloMosaic.TcCoe Cert.ReferenceIdeal Cert.ReferenceIdeal.Gen Idealize.SL.Sem

variable (m : (ℓ : Loc nD τ sig) → Buf (Elt Ideal) ℓ) (c : Dev nD)

/-- The rotation read at a lane, the partner lane written from below and from above. -/
theorem rrope_at (ang : Fin 64 → EReal) (v : Fin 128 → EReal) (k : Fin 128) :
    (if h : k.val < 64 then
        v k * Ideal.cos (ang ⟨k.val, h⟩) + v ⟨64 + k.val, by omega⟩ * Ideal.sin (ang ⟨k.val, h⟩)
      else v ⟨64 + (k.val - 64), by omega⟩ * Ideal.cos (ang ⟨k.val - 64, by omega⟩) - v ⟨k.val - 64, by omega⟩ * Ideal.sin (ang ⟨k.val - 64, by omega⟩))
      = Spec.rrope ang v k := by
  unfold Spec.rrope
  by_cases hk : k.val < 64
  · rw [dif_pos hk, dif_pos hk]
    exact congrArg (fun l => v k * _ + v l * _) (Fin.ext (Nat.add_comm _ _))
  · rw [dif_neg hk, dif_neg hk]
    exact congrArg (fun l => v l * _ - _) (Fin.ext (by show 64 + (k.val - 64) = k.val; omega))

/-- Head `h` of row `s` of batch `b` of the rows. -/
theorem rows_apply (b : Fin 2) (s : Fin 1024) (h : Fin 56) (k : Fin 128) :
    V m c main_v50 (ix4 b s h k) = Spec.rhead (Spec.angle (m ((c : Thread nD τ).loc main_arg4) (ix2 b s)))
      (fun h k => m ((c : Thread nD τ).loc main_arg0) (ix4 b s h k)) (fun h k => m ((c : Thread nD τ).loc main_arg1) (ix4 b s h k))
      (fun h k => m ((c : Thread nD τ).loc main_arg2) (ix4 b s h k)) h k := by
  unfold V
  after_reads_at
  unfold Spec.rhead
  by_cases h1 : h.val < 40
  · rw [dif_pos h1, dif_pos h1]
    after_reads_at
    exact rrope_at (Spec.angle (m ((c : Thread nD τ).loc main_arg4) (ix2 b s)))
      (fun k => m ((c : Thread nD τ).loc main_arg0) (ix4 b s ⟨h.val, h1⟩ k)) k
  · by_cases h2 : h.val < 48
    · rw [dif_neg h1, dif_neg h1, dif_pos (show h.val - 40 < 8 by omega), dif_pos h2]
      after_reads_at
      exact rrope_at (Spec.angle (m ((c : Thread nD τ).loc main_arg4) (ix2 b s)))
        (fun k => m ((c : Thread nD τ).loc main_arg1) (ix4 b s ⟨h.val - 40, by omega⟩ k)) k
    · rw [dif_neg h1, dif_neg h1, dif_neg (show ¬h.val - 40 < 8 by omega), dif_neg h2]
      after_reads_at
      exact congrArg (fun j => m ((c : Thread nD τ).loc main_arg2) (ix4 b s j k)) (Fin.ext (by show h.val - 40 - 8 = h.val - 48; omega))

end Cert.ReferenceIdeal.Ref

end
-- ==== Proof.RefRun.lean ====
/-
  The reference's run: each result ends at what the call leaves in it, the arguments as launched.
-/
module

public import proofs.«01_k».proof.Proof.RefArr

@[expose] public section

set_option maxRecDepth 16384

noncomputable section

namespace Cert.ReferenceIdeal.Ref

open Idealize.ShloMosaic Idealize.ShloMosaic.TcCoe Cert.ReferenceIdeal Cert.ReferenceIdeal.Gen Idealize.SL.Sem

variable (m : (ℓ : Loc nD τ sig) → Buf (Elt Ideal) ℓ) (ρ : Dev nD → PrngReg)

/-- Every execution ends with each result at what the call leaves in its array, the arguments unchanged. -/
theorem run : θ_run defs (onTc (τ := τ) (main (F := Ideal))) ⟨m, fun _ => 0, ρ⟩ (fun r => ∀ c : Dev nD,
      r.2.mem ((c.tc : Thread nD τ).loc main_v51_0) = (dats m 0 c).arrAt 4 cfg0.N
      ∧ r.2.mem ((c.tc : Thread nD τ).loc main_v51_1) = (dats m 0 c).arrAt 5 cfg0.N
      ∧ r.2.mem ((c.tc : Thread nD τ).loc main_v51_2) = (dats m 0 c).arrAt 6 cfg0.N
      ∧ r.2.mem ((c.tc : Thread nD τ).loc main_v51_3) = (dats m 0 c).arrAt 7 cfg0.N
      ∧ r.2.mem ((c.tc : Thread nD τ).loc main_v51_4) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c).1 4, (h.1 c).1 5, (h.1 c).1 6, (h.1 c).1 7, (h.1 c).1 8, h.2 c⟩)
    (θ_run_and (run_main m ρ) (unchanged m ρ))

variable (c : Dev nD)

/-- The product's array, from the rotated rows and the arguments. -/
theorem end4 : (dats m 0 c).arrAt 4 cfg0.N = out4 (V m c main_v50) (m ((c.tc : Thread nD τ).loc main_arg3)) (m ((c.tc : Thread nD τ).loc main_arg5)) (m ((c.tc : Thread nD τ).loc main_arg6)) := by
  rw [arr4, V_main_arg3, V_main_arg5, V_main_arg6]
/-- The array of the product's codes. -/
theorem end7 : (dats m 0 c).arrAt 7 cfg0.N = out7 (V m c main_v50) (m ((c.tc : Thread nD τ).loc main_arg3)) (m ((c.tc : Thread nD τ).loc main_arg5)) (m ((c.tc : Thread nD τ).loc main_arg6)) := by
  rw [arr7, V_main_arg3, V_main_arg5, V_main_arg6]
/-- The array of the product's scales. -/
theorem end8 : (dats m 0 c).arrAt 8 cfg0.N = out8 (V m c main_v50) (m ((c.tc : Thread nD τ).loc main_arg3)) (m ((c.tc : Thread nD τ).loc main_arg5)) (m ((c.tc : Thread nD τ).loc main_arg6)) := by
  rw [arr8, V_main_arg3, V_main_arg5, V_main_arg6]

end Cert.ReferenceIdeal.Ref

end
-- ==== Proof.Equation.lean ====
/-
  The five results agree, element by element, when the two programs are launched with the same arguments.
-/
module

public import proofs.«01_k».proof.Proof.KernelHost
public import proofs.«01_k».proof.Proof.RefHost
public import proofs.«01_k».proof.Proof.RefRun

@[expose] public section

set_option maxRecDepth 16384

noncomputable section

namespace Cert.Proof.Equation

open Idealize.ShloMosaic Idealize.ShloMosaic.TcCoe Idealize.SL.Sem
open Cert.KernelIdeal.Gen (W5 V1 V3)

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

/-- The reference is launched with the kernel's arguments on core `c`. -/
structure Same (c : Dev Cert.KernelIdeal.nD) : Prop where
  a0 : m' (c.tc.loc Cert.ReferenceIdeal.main_arg0) = m (c.tc.loc Cert.KernelIdeal.main_arg0)
  a1 : m' (c.tc.loc Cert.ReferenceIdeal.main_arg1) = m (c.tc.loc Cert.KernelIdeal.main_arg1)
  a2 : m' (c.tc.loc Cert.ReferenceIdeal.main_arg2) = m (c.tc.loc Cert.KernelIdeal.main_arg2)
  a3 : m' (c.tc.loc Cert.ReferenceIdeal.main_arg3) = m (c.tc.loc Cert.KernelIdeal.main_arg3)
  a4 : m' (c.tc.loc Cert.ReferenceIdeal.main_arg4) = m (c.tc.loc Cert.KernelIdeal.main_arg4)
  a5 : m' (c.tc.loc Cert.ReferenceIdeal.main_arg5) = m (c.tc.loc Cert.KernelIdeal.main_arg5)
  a6 : m' (c.tc.loc Cert.ReferenceIdeal.main_arg6) = m (c.tc.loc Cert.KernelIdeal.main_arg6)

/-- Head `h` of row `s` of batch `b` as the kernel rotates it, from the arguments. -/
theorem kernel_head (c : Dev Cert.KernelIdeal.nD) (b : Fin 2) (s : Fin 1024) (h : Fin 56) :
    Cert.KernelIdeal.Block.headA (V1 m ρ) c (Cert.KernelIdeal.Host.row b s) h
      = Spec.rowHead (m (c.tc.loc Cert.KernelIdeal.main_arg4) (ix2 b s)) (fun h k => m (c.tc.loc Cert.KernelIdeal.main_arg0) (ix4 b s h k))
          (fun h k => m (c.tc.loc Cert.KernelIdeal.main_arg1) (ix4 b s h k)) (fun h k => m (c.tc.loc Cert.KernelIdeal.main_arg2) (ix4 b s h k)) h :=
  Spec.head_congr
    (fun k => congrArg₂ (fun x y : EReal => x * y) (congrArg (FloatOps.sitofp (F := Ideal) .f32) (Cert.KernelIdeal.Host.pos_apply m ρ c b s 0))
      (Cert.KernelIdeal.Host.freq_apply m ρ c 0 k))
    (fun h k => Cert.KernelIdeal.Host.q_apply m ρ c b s h k) (fun h k => Cert.KernelIdeal.Host.k_apply m ρ c b s h k)
    (fun h k => Cert.KernelIdeal.Host.v_apply m ρ c b s h k) h

variable {m m'} {c : Dev Cert.KernelIdeal.nD} (e : Same m m' c)
include e

/-- The reference's head is the kernel's. -/
theorem head_eq (b : Fin 2) (s : Fin 1024) (h : Fin 56) :
    Cert.ReferenceIdeal.Ref.headR (Cert.ReferenceIdeal.Gen.V m' c Cert.ReferenceIdeal.main_v50) b s h
      = Cert.KernelIdeal.Block.headA (V1 m ρ) c (Cert.KernelIdeal.Host.row b s) h := by
  rw [kernel_head, ← Spec.rowHead_eq]
  funext k
  unfold Cert.ReferenceIdeal.Ref.headR
  rw [Cert.ReferenceIdeal.Ref.rows_apply, e.a0, e.a1, e.a2, e.a4]

/-- The codes of the rows agree. -/
theorem gcodes_eq : Cert.ReferenceIdeal.Ref.out5 (Cert.ReferenceIdeal.Gen.V m' c Cert.ReferenceIdeal.main_v50)
    = W5 m ρ c (Proc.devRef .tc Cert.KernelIdeal.main_v21) := by
  funext y
  idx_vars y
  refine Eq.trans ?_ (Cert.KernelIdeal.Host.gcode_apply m ρ c y0 y1 y2).symm
  unfold Cert.ReferenceIdeal.Ref.out5 Cert.KernelIdeal.Block.code5
  rw [Cert.ReferenceIdeal.Ref.codesOut_apply, Cert.ReferenceIdeal.Ref.code_apply, head_eq ρ e, Spec.rcode_eq]

/-- The scales of the rows agree. -/
theorem gscales_eq : Cert.ReferenceIdeal.Ref.out6 (Cert.ReferenceIdeal.Gen.V m' c Cert.ReferenceIdeal.main_v50)
    = W5 m ρ c (Proc.devRef .tc Cert.KernelIdeal.main_v22) := by
  funext y
  idx_vars y
  refine Eq.trans ?_ (Cert.KernelIdeal.Host.gscale_apply m ρ c y0 y1 y2).symm
  unfold Cert.ReferenceIdeal.Ref.out6 Cert.KernelIdeal.Block.scale6
  rw [Cert.ReferenceIdeal.Ref.scale_apply, head_eq ρ e, Spec.rscale_eq]

/-- The dequantised rows agree. -/
theorem deq_eq (b : Fin 2) (s : Fin 1024) (k : Fin 7168) :
    Cert.ReferenceIdeal.Gen.k0_pay6 (Cert.ReferenceIdeal.Gen.V m' c Cert.ReferenceIdeal.main_v50) (ix2 (Cert.KernelIdeal.Host.row b s) k)
      = V3 m ρ c Cert.KernelIdeal.main_v17_2 (ix2 (Cert.KernelIdeal.Host.row b s) k) := by
  rw [Cert.KernelIdeal.Host.rows_apply]
  refine (Cert.ReferenceIdeal.Ref.deq_apply _ (Cert.KernelIdeal.Host.row b s) k).trans ?_
  rw [Cert.KernelIdeal.Host.row_div, Cert.KernelIdeal.Host.row_mod, head_eq ρ e, Spec.rdeq_eq]
  rfl

/-- The products agree. -/
theorem prod_eq (b : Fin 2) (s : Fin 1024) (d : Fin 5120) :
    Cert.ReferenceIdeal.Gen.k0_pay8 (Cert.ReferenceIdeal.Gen.k0_pay6 (Cert.ReferenceIdeal.Gen.V m' c Cert.ReferenceIdeal.main_v50))
        (Cert.ReferenceIdeal.Gen.k0_pay7 (m' (c.tc.loc Cert.ReferenceIdeal.main_arg5)) (m' (c.tc.loc Cert.ReferenceIdeal.main_arg6)))
        (m' (c.tc.loc Cert.ReferenceIdeal.main_arg3)) (ix3 b s d)
      = Cert.KernelIdeal.Mm.dxA (V3 m ρ) c (Cert.KernelIdeal.Host.row b s) d := by
  refine (Cert.ReferenceIdeal.Ref.prod_apply _ _ _ b s d).trans ?_
  unfold Cert.KernelIdeal.Mm.dxA Cert.KernelIdeal.Mm.dxOf
  rw [Cert.KernelIdeal.Host.res_apply, e.a3, e.a5, e.a6]
  refine congrArg (· + _) (Finset.sum_congr rfl fun k _ => ?_)
  rw [Cert.ReferenceIdeal.Ref.w_apply, Cert.KernelIdeal.Host.w_apply, Cert.KernelIdeal.Host.s_apply]
  exact congrArg (· * _) (deq_eq ρ e b s k)

/-- The reference's group of the product is the kernel's. -/
theorem group_eq (b : Fin 2) (s : Fin 1024) (h : Fin 40) :
    Cert.ReferenceIdeal.Ref.groupR (Cert.ReferenceIdeal.Gen.k0_pay6 (Cert.ReferenceIdeal.Gen.V m' c Cert.ReferenceIdeal.main_v50))
        (Cert.ReferenceIdeal.Gen.k0_pay7 (m' (c.tc.loc Cert.ReferenceIdeal.main_arg5)) (m' (c.tc.loc Cert.ReferenceIdeal.main_arg6)))
        (m' (c.tc.loc Cert.ReferenceIdeal.main_arg3)) b s h
      = Cert.KernelIdeal.Mm.groupA (V3 m ρ) c (Cert.KernelIdeal.Host.row b s) h := by
  funext k
  unfold Cert.ReferenceIdeal.Ref.groupR Cert.KernelIdeal.Mm.groupA
  rw [prod_eq ρ e]
  exact congrArg _ (Fin.ext (by show h.val * 128 + k.val = 128 * h.val + k.val; omega))

/-- The product's array agrees. -/
theorem dx_eq : Cert.ReferenceIdeal.Ref.out4 (Cert.ReferenceIdeal.Gen.V m' c Cert.ReferenceIdeal.main_v50)
      (m' (c.tc.loc Cert.ReferenceIdeal.main_arg3)) (m' (c.tc.loc Cert.ReferenceIdeal.main_arg5)) (m' (c.tc.loc Cert.ReferenceIdeal.main_arg6))
    = W5 m ρ c (Proc.devRef .tc Cert.KernelIdeal.main_v20) := by
  funext y
  idx_vars y
  refine Eq.trans ?_ (Cert.KernelIdeal.Host.dx_apply m ρ c y0 y1 y2).symm
  unfold Cert.ReferenceIdeal.Ref.out4
  rw [Cert.ReferenceIdeal.Ref.prodOut_apply, prod_eq ρ e]

/-- The codes of the product agree. -/
theorem dcodes_eq : Cert.ReferenceIdeal.Ref.out7 (Cert.ReferenceIdeal.Gen.V m' c Cert.ReferenceIdeal.main_v50)
      (m' (c.tc.loc Cert.ReferenceIdeal.main_arg3)) (m' (c.tc.loc Cert.ReferenceIdeal.main_arg5)) (m' (c.tc.loc Cert.ReferenceIdeal.main_arg6))
    = W5 m ρ c (Proc.devRef .tc Cert.KernelIdeal.main_v23) := by
  funext y
  idx_vars y
  refine Eq.trans ?_ (Cert.KernelIdeal.Host.dcode_apply m ρ c y0 y1 y2).symm
  unfold Cert.ReferenceIdeal.Ref.out7 Cert.KernelIdeal.Mm.codeA
  rw [Cert.ReferenceIdeal.Ref.dcodesOut_apply, Cert.ReferenceIdeal.Ref.dcode_apply, group_eq ρ e, Spec.rcode_eq]
  rfl

/-- The scales of the product agree. -/
theorem dscales_eq : Cert.ReferenceIdeal.Ref.out8 (Cert.ReferenceIdeal.Gen.V m' c Cert.ReferenceIdeal.main_v50)
      (m' (c.tc.loc Cert.ReferenceIdeal.main_arg3)) (m' (c.tc.loc Cert.ReferenceIdeal.main_arg5)) (m' (c.tc.loc Cert.ReferenceIdeal.main_arg6))
    = W5 m ρ c (Proc.devRef .tc Cert.KernelIdeal.main_v25) := by
  funext y
  idx_vars y
  refine Eq.trans ?_ (Cert.KernelIdeal.Host.dscale_apply m ρ c y0 y1 y2).symm
  unfold Cert.ReferenceIdeal.Ref.out8 Cert.KernelIdeal.Mm.scaleA
  rw [Cert.ReferenceIdeal.Ref.dscale_apply, group_eq ρ e, Spec.rscale_eq]
  exact congrArg (fun h => Spec.scale (Cert.KernelIdeal.Mm.groupA (V3 m ρ) c (Cert.KernelIdeal.Host.row y0 y1) h))
    (Fin.ext (by show y2.val = 2 * (y2.val / 2) + y2.val % 2; omega))

end Cert.Proof.Equation

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Equation
public import Idealize.ShloMosaic.Lib.Bf16Pair
public import Idealize.ShloMosaic.Adequacy
public import Idealize.ShloMosaic.Init

@[expose] public section

noncomputable section

namespace Cert.Proof

open Idealize.ShloMosaic Idealize.SL.Sem

/-- The rewrites that idealize made keep what the kernel computes. -/
theorem preserves : Cert.preserves_Kernel_KernelIdeal :=
  ⟨IdealRules.bf16_pair.statement _ _ Cert.KernelIdeal.Gen.bitcasts_S128x2x128_w16_S128x1x128_w32,
   IdealRules.bf16_pair.statement _ _ Cert.KernelIdeal.Gen.bitcasts_S256x128_w16_S128x128_w32,
   IdealRules.named_const.statement Cert.KernelIdeal.κ "ln2" .f32 0x3F317218#32 ((Real.log 2 : ℝ) : EReal) rfl⟩

/-- Launched with the same arguments, the kernel and the reference end with the same five results. -/
theorem algebraic : Cert.algebraic_KernelIdeal_ReferenceIdeal := by
  intro m g m' g' _ h
  have e : ∀ c, Equation.Same m m' c := fun c =>
    ⟨(h c).1, (h c).2.1, (h c).2.2.1, (h c).2.2.2.1, (h c).2.2.2.2.1, (h c).2.2.2.2.2.1, (h c).2.2.2.2.2.2⟩
  refine ⟨_, _, _, _, _, Cert.KernelIdeal.Run.run m g, ?_⟩
  refine (θ_run _ _ _).mono (fun r hr c => ?_) (Cert.ReferenceIdeal.Ref.run m' g')
  obtain ⟨h0, h1, h2, h3, h4, ha⟩ := hr c
  exact ⟨h0.trans ((Cert.ReferenceIdeal.Ref.end4 m' c).trans (Equation.dx_eq g (e c))), h1.trans ((Cert.ReferenceIdeal.Ref.arr5 m' c).trans (Equation.gcodes_eq g (e c))), h2.trans ((Cert.ReferenceIdeal.Ref.arr6 m' c).trans (Equation.gscales_eq g (e c))),
    h3.trans ((Cert.ReferenceIdeal.Ref.end7 m' c).trans (Equation.dcodes_eq g (e c))), h4.trans ((Cert.ReferenceIdeal.Ref.end8 m' c).trans (Equation.dscales_eq g (e c))), ha⟩

/-- Everything claimed. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, preserves, algebraic⟩

end Cert.Proof

end
